-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S128x1024x768 : Shape := ⟨3, ![128, 1024, 768]⟩
abbrev S16x256x8 : Shape := ⟨3, ![16, 256, 8]⟩
abbrev S128x1024 : Shape := ⟨2, ![128, 1024]⟩
abbrev S128x256 : Shape := ⟨2, ![128, 256]⟩
abbrev S256x128 : Shape := ⟨2, ![256, 128]⟩
abbrev S1024x1 : Shape := ⟨2, ![1024, 1]⟩
abbrev S1x1024 : Shape := ⟨2, ![1, 1024]⟩
abbrev S256x1 : Shape := ⟨2, ![256, 1]⟩
abbrev S256x1024 : Shape := ⟨2, ![256, 1024]⟩
abbrev S256x8 : Shape := ⟨2, ![256, 8]⟩
abbrev S1x256x8 : Shape := ⟨3, ![1, 256, 8]⟩
abbrev S1024 : Shape := ⟨1, ![1024]⟩
abbrev S16 : Shape := ⟨1, ![16]⟩
abbrev S_ : Shape := ⟨0, ![]⟩

abbrev nBuf : Table → Nat
  | .hbm => 7
  | .local .tc .vmem => 1
  | .local .scVector .vmem => 2
  | _ => 0

abbrev bufTy : (tb : Table) → Fin (nBuf tb) → BufTy
  | .hbm, ⟨0, _⟩ => ⟨S128x1024x768, .f32⟩
  | .hbm, ⟨1, _⟩ => ⟨S16x256x8, .i32⟩
  | .hbm, ⟨2, _⟩ => ⟨S128x1024, .i32⟩
  | .hbm, ⟨3, _⟩ => ⟨S_, .i32⟩
  | .hbm, ⟨4, _⟩ => ⟨S128x1024, .i32⟩
  | .hbm, ⟨5, _⟩ => ⟨S128x1024, .i1⟩
  | .hbm, ⟨6, _⟩ => ⟨S128x1024, .i1⟩
  | .local .tc .vmem, ⟨0, _⟩ => ⟨S16x256x8, .i32⟩
  | .local .scVector .vmem, ⟨0, _⟩ => ⟨S256x8, .i32⟩
  | .local .scVector .vmem, ⟨1, _⟩ => ⟨S1024, .i32⟩
  | _, _ => ⟨S128x1024x768, .f32⟩

abbrev bufScoped : (cs : CoreSpace) → Fin (nBuf (.local .tc cs)) → Bool
  | .vmem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => true
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0_scv : Ref sig .scVector := ⟨.hbm, 1, rfl⟩
abbrev main_v1_scv : Ref sig .scVector := ⟨.hbm, 2, rfl⟩
abbrev cc0_stg0_0 : Ref sig .tc := ⟨.vmem, 0, rfl⟩
abbrev cc1_scratch0 : Ref sig .scVector := ⟨.vmem, 0, rfl⟩
abbrev cc1_scratch1 : Ref sig .scVector := ⟨.vmem, 1, rfl⟩
abbrev cc0_sem0_0 : DmaSem sig := 0
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x256x8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  let v6 : BitVec 1 := Scalar.cmpi .sgt v1 c0_i32_1
  let v7 : BitVec 32 := Scalar.extui v6
  let c0_i32_2 : BitVec 32 := 0#32
  let v8 : BitVec 1 := Scalar.cmpi .slt v1 c0_i32_2
  let v9 : BitVec 32 := Scalar.extui v8
  let v10 : BitVec 32 := Scalar.subi v7 v9
  let c2_i32_0 : BitVec 32 := 2#32
  let c0_i32_3 : BitVec 32 := 0#32
  let v11 : BitVec 1 := Scalar.cmpi .sgt c2_i32_0 c0_i32_3
  let v12 : BitVec 32 := Scalar.extui v11
  let c0_i32_4 : BitVec 32 := 0#32
  let v13 : BitVec 1 := Scalar.cmpi .slt c2_i32_0 c0_i32_4
  let v14 : BitVec 32 := Scalar.extui v13
  let v15 : BitVec 32 := Scalar.subi v12 v14
  let v16 : BitVec 1 := Scalar.cmpi .ne v10 v15
  let v17 : BitVec 32 := Scalar.remsi v1 c2_i32_0
  let c0_i32_5 : BitVec 32 := 0#32
  let v18 : BitVec 1 := Scalar.cmpi .ne v17 c0_i32_5
  let v19 : BitVec 1 := Scalar.andi v16 v18
  let v5 : BitVec 32 := Scalar.divsi v1 c2_i32_0
  let c1_i32_6 : BitVec 32 := 1#32
  let v20 : BitVec 32 := Scalar.subi v5 c1_i32_6
  let v21 : BitVec 32 := Scalar.select v19 v20 v5
  let c0_i32_324_r0 : BitVec 32 := 0#32
  let c0_i32_325_r0 : BitVec 32 := 0#32
  ![v21.toNat, 0, 0]

def k1_chk1 (v99 : IVec S16 32) (v102 : IVec S16 32) : Prop :=
  (∀ a x, ((![v99, v102] : Fin 2 → IVec S16 32) a x).toNat < S256x8.size a)
theorem k1_idx1_inb : ∀ (v99 : IVec S16 32) (v102 : IVec S16 32) (k1_hw1 : k1_chk1 v99 v102), ∀ a x, ((![v99, v102] : Fin 2 → IVec S16 32) a x).toNat < S256x8.size a := fun v99 v102 k1_hw1 => k1_hw1

def k1_chk2 (v103 : IVec S16 32) : Prop :=
  (∀ a x, ((![v103] : Fin 1 → IVec S16 32) a x).toNat < S1024.size a)
theorem k1_idx2_inb : ∀ (v103 : IVec S16 32) (k1_hw2 : k1_chk2 v103), ∀ a x, ((![v103] : Fin 1 → IVec S16 32) a x).toNat < S1024.size a := fun v103 k1_hw2 => k1_hw2

def k1_chk3 (v105 : IVec S16 32) (v108 : IVec S16 32) : Prop :=
  (∀ a x, ((![v105, v108] : Fin 2 → IVec S16 32) a x).toNat < S256x8.size a)
theorem k1_idx3_inb : ∀ (v105 : IVec S16 32) (v108 : IVec S16 32) (k1_hw3 : k1_chk3 v105 v108), ∀ a x, ((![v105, v108] : Fin 2 → IVec S16 32) a x).toNat < S256x8.size a := fun v105 v108 k1_hw3 => k1_hw3

def k1_chk4 (v109 : IVec S16 32) : Prop :=
  (∀ a x, ((![v109] : Fin 1 → IVec S16 32) a x).toNat < S1024.size a)
theorem k1_idx4_inb : ∀ (v109 : IVec S16 32) (k1_hw4 : k1_chk4 v109), ∀ a x, ((![v109] : Fin 1 → IVec S16 32) a x).toNat < S1024.size a := fun v109 k1_hw4 => k1_hw4

def k1_chk5 (v111 : IVec S16 32) (v114 : IVec S16 32) : Prop :=
  (∀ a x, ((![v111, v114] : Fin 2 → IVec S16 32) a x).toNat < S256x8.size a)
theorem k1_idx5_inb : ∀ (v111 : IVec S16 32) (v114 : IVec S16 32) (k1_hw5 : k1_chk5 v111 v114), ∀ a x, ((![v111, v114] : Fin 2 → IVec S16 32) a x).toNat < S256x8.size a := fun v111 v114 k1_hw5 => k1_hw5

def k1_chk6 (v115 : IVec S16 32) : Prop :=
  (∀ a x, ((![v115] : Fin 1 → IVec S16 32) a x).toNat < S1024.size a)
theorem k1_idx6_inb : ∀ (v115 : IVec S16 32) (k1_hw6 : k1_chk6 v115), ∀ a x, ((![v115] : Fin 1 → IVec S16 32) a x).toNat < S1024.size a := fun v115 k1_hw6 => k1_hw6

def k1_chk7 (v117 : IVec S16 32) (v120 : IVec S16 32) : Prop :=
  (∀ a x, ((![v117, v120] : Fin 2 → IVec S16 32) a x).toNat < S256x8.size a)
theorem k1_idx7_inb : ∀ (v117 : IVec S16 32) (v120 : IVec S16 32) (k1_hw7 : k1_chk7 v117 v120), ∀ a x, ((![v117, v120] : Fin 2 → IVec S16 32) a x).toNat < S256x8.size a := fun v117 v120 k1_hw7 => k1_hw7

def k1_chk8 (v121 : IVec S16 32) : Prop :=
  (∀ a x, ((![v121] : Fin 1 → IVec S16 32) a x).toNat < S1024.size a)
theorem k1_idx8_inb : ∀ (v121 : IVec S16 32) (k1_hw8 : k1_chk8 v121), ∀ a x, ((![v121] : Fin 1 → IVec S16 32) a x).toNat < S1024.size a := fun v121 k1_hw8 => k1_hw8

def k1_chk9 (v123 : IVec S16 32) (v126 : IVec S16 32) : Prop :=
  (∀ a x, ((![v123, v126] : Fin 2 → IVec S16 32) a x).toNat < S256x8.size a)
theorem k1_idx9_inb : ∀ (v123 : IVec S16 32) (v126 : IVec S16 32) (k1_hw9 : k1_chk9 v123 v126), ∀ a x, ((![v123, v126] : Fin 2 → IVec S16 32) a x).toNat < S256x8.size a := fun v123 v126 k1_hw9 => k1_hw9

def k1_chk10 (v127 : IVec S16 32) : Prop :=
  (∀ a x, ((![v127] : Fin 1 → IVec S16 32) a x).toNat < S1024.size a)
theorem k1_idx10_inb : ∀ (v127 : IVec S16 32) (k1_hw10 : k1_chk10 v127), ∀ a x, ((![v127] : Fin 1 → IVec S16 32) a x).toNat < S1024.size a := fun v127 k1_hw10 => k1_hw10

def k1_chk11 (v129 : IVec S16 32) (v132 : IVec S16 32) : Prop :=
  (∀ a x, ((![v129, v132] : Fin 2 → IVec S16 32) a x).toNat < S256x8.size a)
theorem k1_idx11_inb : ∀ (v129 : IVec S16 32) (v132 : IVec S16 32) (k1_hw11 : k1_chk11 v129 v132), ∀ a x, ((![v129, v132] : Fin 2 → IVec S16 32) a x).toNat < S256x8.size a := fun v129 v132 k1_hw11 => k1_hw11

def k1_chk12 (v133 : IVec S16 32) : Prop :=
  (∀ a x, ((![v133] : Fin 1 → IVec S16 32) a x).toNat < S1024.size a)
theorem k1_idx12_inb : ∀ (v133 : IVec S16 32) (k1_hw12 : k1_chk12 v133), ∀ a x, ((![v133] : Fin 1 → IVec S16 32) a x).toNat < S1024.size a := fun v133 k1_hw12 => k1_hw12

def k1_chk13 (v135 : IVec S16 32) (v138 : IVec S16 32) : Prop :=
  (∀ a x, ((![v135, v138] : Fin 2 → IVec S16 32) a x).toNat < S256x8.size a)
theorem k1_idx13_inb : ∀ (v135 : IVec S16 32) (v138 : IVec S16 32) (k1_hw13 : k1_chk13 v135 v138), ∀ a x, ((![v135, v138] : Fin 2 → IVec S16 32) a x).toNat < S256x8.size a := fun v135 v138 k1_hw13 => k1_hw13

def k1_chk14 (v139 : IVec S16 32) : Prop :=
  (∀ a x, ((![v139] : Fin 1 → IVec S16 32) a x).toNat < S1024.size a)
theorem k1_idx14_inb : ∀ (v139 : IVec S16 32) (k1_hw14 : k1_chk14 v139), ∀ a x, ((![v139] : Fin 1 → IVec S16 32) a x).toNat < S1024.size a := fun v139 k1_hw14 => k1_hw14

def k1_chk15 (v141 : IVec S16 32) (v144 : IVec S16 32) : Prop :=
  (∀ a x, ((![v141, v144] : Fin 2 → IVec S16 32) a x).toNat < S256x8.size a)
theorem k1_idx15_inb : ∀ (v141 : IVec S16 32) (v144 : IVec S16 32) (k1_hw15 : k1_chk15 v141 v144), ∀ a x, ((![v141, v144] : Fin 2 → IVec S16 32) a x).toNat < S256x8.size a := fun v141 v144 k1_hw15 => k1_hw15

def k1_chk16 (v145 : IVec S16 32) : Prop :=
  (∀ a x, ((![v145] : Fin 1 → IVec S16 32) a x).toNat < S1024.size a)
theorem k1_idx16_inb : ∀ (v145 : IVec S16 32) (k1_hw16 : k1_chk16 v145), ∀ a x, ((![v145] : Fin 1 → IVec S16 32) a x).toNat < S1024.size a := fun v145 k1_hw16 => k1_hw16

def k1_chk17 (v147 : IVec S16 32) (v150 : IVec S16 32) : Prop :=
  (∀ a x, ((![v147, v150] : Fin 2 → IVec S16 32) a x).toNat < S256x8.size a)
theorem k1_idx17_inb : ∀ (v147 : IVec S16 32) (v150 : IVec S16 32) (k1_hw17 : k1_chk17 v147 v150), ∀ a x, ((![v147, v150] : Fin 2 → IVec S16 32) a x).toNat < S256x8.size a := fun v147 v150 k1_hw17 => k1_hw17

def k1_chk18 (v151 : IVec S16 32) : Prop :=
  (∀ a x, ((![v151] : Fin 1 → IVec S16 32) a x).toNat < S1024.size a)
theorem k1_idx18_inb : ∀ (v151 : IVec S16 32) (k1_hw18 : k1_chk18 v151), ∀ a x, ((![v151] : Fin 1 → IVec S16 32) a x).toNat < S1024.size a := fun v151 k1_hw18 => k1_hw18

def k1_chk19 (v153 : IVec S16 32) (v156 : IVec S16 32) : Prop :=
  (∀ a x, ((![v153, v156] : Fin 2 → IVec S16 32) a x).toNat < S256x8.size a)
theorem k1_idx19_inb : ∀ (v153 : IVec S16 32) (v156 : IVec S16 32) (k1_hw19 : k1_chk19 v153 v156), ∀ a x, ((![v153, v156] : Fin 2 → IVec S16 32) a x).toNat < S256x8.size a := fun v153 v156 k1_hw19 => k1_hw19

def k1_chk20 (v157 : IVec S16 32) : Prop :=
  (∀ a x, ((![v157] : Fin 1 → IVec S16 32) a x).toNat < S1024.size a)
theorem k1_idx20_inb : ∀ (v157 : IVec S16 32) (k1_hw20 : k1_chk20 v157), ∀ a x, ((![v157] : Fin 1 → IVec S16 32) a x).toNat < S1024.size a := fun v157 k1_hw20 => k1_hw20

def k1_chk21 (v159 : IVec S16 32) (v162 : IVec S16 32) : Prop :=
  (∀ a x, ((![v159, v162] : Fin 2 → IVec S16 32) a x).toNat < S256x8.size a)
theorem k1_idx21_inb : ∀ (v159 : IVec S16 32) (v162 : IVec S16 32) (k1_hw21 : k1_chk21 v159 v162), ∀ a x, ((![v159, v162] : Fin 2 → IVec S16 32) a x).toNat < S256x8.size a := fun v159 v162 k1_hw21 => k1_hw21

def k1_chk22 (v163 : IVec S16 32) : Prop :=
  (∀ a x, ((![v163] : Fin 1 → IVec S16 32) a x).toNat < S1024.size a)
theorem k1_idx22_inb : ∀ (v163 : IVec S16 32) (k1_hw22 : k1_chk22 v163), ∀ a x, ((![v163] : Fin 1 → IVec S16 32) a x).toNat < S1024.size a := fun v163 k1_hw22 => k1_hw22

def k1_chk23 (v165 : IVec S16 32) (v168 : IVec S16 32) : Prop :=
  (∀ a x, ((![v165, v168] : Fin 2 → IVec S16 32) a x).toNat < S256x8.size a)
theorem k1_idx23_inb : ∀ (v165 : IVec S16 32) (v168 : IVec S16 32) (k1_hw23 : k1_chk23 v165 v168), ∀ a x, ((![v165, v168] : Fin 2 → IVec S16 32) a x).toNat < S256x8.size a := fun v165 v168 k1_hw23 => k1_hw23

def k1_chk24 (v169 : IVec S16 32) : Prop :=
  (∀ a x, ((![v169] : Fin 1 → IVec S16 32) a x).toNat < S1024.size a)
theorem k1_idx24_inb : ∀ (v169 : IVec S16 32) (k1_hw24 : k1_chk24 v169), ∀ a x, ((![v169] : Fin 1 → IVec S16 32) a x).toNat < S1024.size a := fun v169 k1_hw24 => k1_hw24

def k1_chk25 (v171 : IVec S16 32) (v174 : IVec S16 32) : Prop :=
  (∀ a x, ((![v171, v174] : Fin 2 → IVec S16 32) a x).toNat < S256x8.size a)
theorem k1_idx25_inb : ∀ (v171 : IVec S16 32) (v174 : IVec S16 32) (k1_hw25 : k1_chk25 v171 v174), ∀ a x, ((![v171, v174] : Fin 2 → IVec S16 32) a x).toNat < S256x8.size a := fun v171 v174 k1_hw25 => k1_hw25

def k1_chk26 (v175 : IVec S16 32) : Prop :=
  (∀ a x, ((![v175] : Fin 1 → IVec S16 32) a x).toNat < S1024.size a)
theorem k1_idx26_inb : ∀ (v175 : IVec S16 32) (k1_hw26 : k1_chk26 v175), ∀ a x, ((![v175] : Fin 1 → IVec S16 32) a x).toNat < S1024.size a := fun v175 k1_hw26 => k1_hw26

def k1_chk27 (v177 : IVec S16 32) (v180 : IVec S16 32) : Prop :=
  (∀ a x, ((![v177, v180] : Fin 2 → IVec S16 32) a x).toNat < S256x8.size a)
theorem k1_idx27_inb : ∀ (v177 : IVec S16 32) (v180 : IVec S16 32) (k1_hw27 : k1_chk27 v177 v180), ∀ a x, ((![v177, v180] : Fin 2 → IVec S16 32) a x).toNat < S256x8.size a := fun v177 v180 k1_hw27 => k1_hw27

def k1_chk28 (v181 : IVec S16 32) : Prop :=
  (∀ a x, ((![v181] : Fin 1 → IVec S16 32) a x).toNat < S1024.size a)
theorem k1_idx28_inb : ∀ (v181 : IVec S16 32) (k1_hw28 : k1_chk28 v181), ∀ a x, ((![v181] : Fin 1 → IVec S16 32) a x).toNat < S1024.size a := fun v181 k1_hw28 => k1_hw28

def k1_chk29 (v183 : IVec S16 32) (v186 : IVec S16 32) : Prop :=
  (∀ a x, ((![v183, v186] : Fin 2 → IVec S16 32) a x).toNat < S256x8.size a)
theorem k1_idx29_inb : ∀ (v183 : IVec S16 32) (v186 : IVec S16 32) (k1_hw29 : k1_chk29 v183 v186), ∀ a x, ((![v183, v186] : Fin 2 → IVec S16 32) a x).toNat < S256x8.size a := fun v183 v186 k1_hw29 => k1_hw29

def k1_chk30 (v187 : IVec S16 32) : Prop :=
  (∀ a x, ((![v187] : Fin 1 → IVec S16 32) a x).toNat < S1024.size a)
theorem k1_idx30_inb : ∀ (v187 : IVec S16 32) (k1_hw30 : k1_chk30 v187), ∀ a x, ((![v187] : Fin 1 → IVec S16 32) a x).toNat < S1024.size a := fun v187 k1_hw30 => k1_hw30

def k1_chk31 (v189 : IVec S16 32) (v192 : IVec S16 32) : Prop :=
  (∀ a x, ((![v189, v192] : Fin 2 → IVec S16 32) a x).toNat < S256x8.size a)
theorem k1_idx31_inb : ∀ (v189 : IVec S16 32) (v192 : IVec S16 32) (k1_hw31 : k1_chk31 v189 v192), ∀ a x, ((![v189, v192] : Fin 2 → IVec S16 32) a x).toNat < S256x8.size a := fun v189 v192 k1_hw31 => k1_hw31

def k1_chk32 (v193 : IVec S16 32) : Prop :=
  (∀ a x, ((![v193] : Fin 1 → IVec S16 32) a x).toNat < S1024.size a)
theorem k1_idx32_inb : ∀ (v193 : IVec S16 32) (k1_hw32 : k1_chk32 v193), ∀ a x, ((![v193] : Fin 1 → IVec S16 32) a x).toNat < S1024.size a := fun v193 k1_hw32 => k1_hw32
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  let v6 : BitVec 1 := Scalar.cmpi .sgt v1 c0_i32_1
  let v7 : BitVec 32 := Scalar.extui v6
  let c0_i32_2 : BitVec 32 := 0#32
  let v8 : BitVec 1 := Scalar.cmpi .slt v1 c0_i32_2
  let v9 : BitVec 32 := Scalar.extui v8
  let v10 : BitVec 32 := Scalar.subi v7 v9
  let c2_i32_0 : BitVec 32 := 2#32
  let c0_i32_3 : BitVec 32 := 0#32
  let v11 : BitVec 1 := Scalar.cmpi .sgt c2_i32_0 c0_i32_3
  let v12 : BitVec 32 := Scalar.extui v11
  let c0_i32_4 : BitVec 32 := 0#32
  let v13 : BitVec 1 := Scalar.cmpi .slt c2_i32_0 c0_i32_4
  let v14 : BitVec 32 := Scalar.extui v13
  let v15 : BitVec 32 := Scalar.subi v12 v14
  let v16 : BitVec 1 := Scalar.cmpi .ne v10 v15
  let v17 : BitVec 32 := Scalar.remsi v1 c2_i32_0
  let c0_i32_5 : BitVec 32 := 0#32
  let v18 : BitVec 1 := Scalar.cmpi .ne v17 c0_i32_5
  let v19 : BitVec 1 := Scalar.andi v16 v18
  let v5 : BitVec 32 := Scalar.divsi v1 c2_i32_0
  let c1_i32_6 : BitVec 32 := 1#32
  let v20 : BitVec 32 := Scalar.subi v5 c1_i32_6
  let v21 : BitVec 32 := Scalar.select v19 v20 v5
  let c8_i32 : BitVec 32 := 8#32
  let v194 : BitVec 32 := Scalar.muli v21 c8_i32
  let c2_i32_7 : BitVec 32 := 2#32
  let c0_i32_8 : BitVec 32 := 0#32
  let v22 : BitVec 1 := Scalar.cmpi .eq c2_i32_7 c0_i32_8
  let c1_i32_9 : BitVec 32 := 1#32
  let v23 : BitVec 32 := Scalar.select v22 c1_i32_9 c2_i32_7
  let v24 : BitVec 32 := Scalar.remsi v1 v23
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let c0_i32_10 : BitVec 32 := 0#32
  let v25 : BitVec 1 := Scalar.cmpi .ne v24 c0_i32_10
  let v29 : BitVec 1 := Scalar.andi v28 v25
  let v30 : BitVec 32 := Scalar.addi v24 v23
  let v31 : BitVec 32 := Scalar.select v29 v30 v24
  let c4_i32 : BitVec 32 := 4#32
  let v32 : BitVec 32 := Scalar.muli v31 c4_i32
  let c0_i32_13 : BitVec 32 := 0#32
  let v33 : BitVec 32 := Scalar.addi v32 c0_i32_13
  let v195 : BitVec 32 := Scalar.addi v194 v33
  let c0_i32_324_r1 : BitVec 32 := 0#32
  ![v195.toNat, 0]

def k1_chk33 (v262 : IVec S16 32) (v265 : IVec S16 32) : Prop :=
  (∀ a x, ((![v262, v265] : Fin 2 → IVec S16 32) a x).toNat < S256x8.size a)
theorem k1_idx33_inb : ∀ (v262 : IVec S16 32) (v265 : IVec S16 32) (k1_hw33 : k1_chk33 v262 v265), ∀ a x, ((![v262, v265] : Fin 2 → IVec S16 32) a x).toNat < S256x8.size a := fun v262 v265 k1_hw33 => k1_hw33

def k1_chk34 (v266 : IVec S16 32) : Prop :=
  (∀ a x, ((![v266] : Fin 1 → IVec S16 32) a x).toNat < S1024.size a)
theorem k1_idx34_inb : ∀ (v266 : IVec S16 32) (k1_hw34 : k1_chk34 v266), ∀ a x, ((![v266] : Fin 1 → IVec S16 32) a x).toNat < S1024.size a := fun v266 k1_hw34 => k1_hw34

def k1_chk35 (v268 : IVec S16 32) (v271 : IVec S16 32) : Prop :=
  (∀ a x, ((![v268, v271] : Fin 2 → IVec S16 32) a x).toNat < S256x8.size a)
theorem k1_idx35_inb : ∀ (v268 : IVec S16 32) (v271 : IVec S16 32) (k1_hw35 : k1_chk35 v268 v271), ∀ a x, ((![v268, v271] : Fin 2 → IVec S16 32) a x).toNat < S256x8.size a := fun v268 v271 k1_hw35 => k1_hw35

def k1_chk36 (v272 : IVec S16 32) : Prop :=
  (∀ a x, ((![v272] : Fin 1 → IVec S16 32) a x).toNat < S1024.size a)
theorem k1_idx36_inb : ∀ (v272 : IVec S16 32) (k1_hw36 : k1_chk36 v272), ∀ a x, ((![v272] : Fin 1 → IVec S16 32) a x).toNat < S1024.size a := fun v272 k1_hw36 => k1_hw36

def k1_chk37 (v274 : IVec S16 32) (v277 : IVec S16 32) : Prop :=
  (∀ a x, ((![v274, v277] : Fin 2 → IVec S16 32) a x).toNat < S256x8.size a)
theorem k1_idx37_inb : ∀ (v274 : IVec S16 32) (v277 : IVec S16 32) (k1_hw37 : k1_chk37 v274 v277), ∀ a x, ((![v274, v277] : Fin 2 → IVec S16 32) a x).toNat < S256x8.size a := fun v274 v277 k1_hw37 => k1_hw37

def k1_chk38 (v278 : IVec S16 32) : Prop :=
  (∀ a x, ((![v278] : Fin 1 → IVec S16 32) a x).toNat < S1024.size a)
theorem k1_idx38_inb : ∀ (v278 : IVec S16 32) (k1_hw38 : k1_chk38 v278), ∀ a x, ((![v278] : Fin 1 → IVec S16 32) a x).toNat < S1024.size a := fun v278 k1_hw38 => k1_hw38

def k1_chk39 (v280 : IVec S16 32) (v283 : IVec S16 32) : Prop :=
  (∀ a x, ((![v280, v283] : Fin 2 → IVec S16 32) a x).toNat < S256x8.size a)
theorem k1_idx39_inb : ∀ (v280 : IVec S16 32) (v283 : IVec S16 32) (k1_hw39 : k1_chk39 v280 v283), ∀ a x, ((![v280, v283] : Fin 2 → IVec S16 32) a x).toNat < S256x8.size a := fun v280 v283 k1_hw39 => k1_hw39

def k1_chk40 (v284 : IVec S16 32) : Prop :=
  (∀ a x, ((![v284] : Fin 1 → IVec S16 32) a x).toNat < S1024.size a)
theorem k1_idx40_inb : ∀ (v284 : IVec S16 32) (k1_hw40 : k1_chk40 v284), ∀ a x, ((![v284] : Fin 1 → IVec S16 32) a x).toNat < S1024.size a := fun v284 k1_hw40 => k1_hw40

def k1_chk41 (v286 : IVec S16 32) (v289 : IVec S16 32) : Prop :=
  (∀ a x, ((![v286, v289] : Fin 2 → IVec S16 32) a x).toNat < S256x8.size a)
theorem k1_idx41_inb : ∀ (v286 : IVec S16 32) (v289 : IVec S16 32) (k1_hw41 : k1_chk41 v286 v289), ∀ a x, ((![v286, v289] : Fin 2 → IVec S16 32) a x).toNat < S256x8.size a := fun v286 v289 k1_hw41 => k1_hw41

def k1_chk42 (v290 : IVec S16 32) : Prop :=
  (∀ a x, ((![v290] : Fin 1 → IVec S16 32) a x).toNat < S1024.size a)
theorem k1_idx42_inb : ∀ (v290 : IVec S16 32) (k1_hw42 : k1_chk42 v290), ∀ a x, ((![v290] : Fin 1 → IVec S16 32) a x).toNat < S1024.size a := fun v290 k1_hw42 => k1_hw42

def k1_chk43 (v292 : IVec S16 32) (v295 : IVec S16 32) : Prop :=
  (∀ a x, ((![v292, v295] : Fin 2 → IVec S16 32) a x).toNat < S256x8.size a)
theorem k1_idx43_inb : ∀ (v292 : IVec S16 32) (v295 : IVec S16 32) (k1_hw43 : k1_chk43 v292 v295), ∀ a x, ((![v292, v295] : Fin 2 → IVec S16 32) a x).toNat < S256x8.size a := fun v292 v295 k1_hw43 => k1_hw43

def k1_chk44 (v296 : IVec S16 32) : Prop :=
  (∀ a x, ((![v296] : Fin 1 → IVec S16 32) a x).toNat < S1024.size a)
theorem k1_idx44_inb : ∀ (v296 : IVec S16 32) (k1_hw44 : k1_chk44 v296), ∀ a x, ((![v296] : Fin 1 → IVec S16 32) a x).toNat < S1024.size a := fun v296 k1_hw44 => k1_hw44

def k1_chk45 (v298 : IVec S16 32) (v301 : IVec S16 32) : Prop :=
  (∀ a x, ((![v298, v301] : Fin 2 → IVec S16 32) a x).toNat < S256x8.size a)
theorem k1_idx45_inb : ∀ (v298 : IVec S16 32) (v301 : IVec S16 32) (k1_hw45 : k1_chk45 v298 v301), ∀ a x, ((![v298, v301] : Fin 2 → IVec S16 32) a x).toNat < S256x8.size a := fun v298 v301 k1_hw45 => k1_hw45

def k1_chk46 (v302 : IVec S16 32) : Prop :=
  (∀ a x, ((![v302] : Fin 1 → IVec S16 32) a x).toNat < S1024.size a)
theorem k1_idx46_inb : ∀ (v302 : IVec S16 32) (k1_hw46 : k1_chk46 v302), ∀ a x, ((![v302] : Fin 1 → IVec S16 32) a x).toNat < S1024.size a := fun v302 k1_hw46 => k1_hw46

def k1_chk47 (v304 : IVec S16 32) (v307 : IVec S16 32) : Prop :=
  (∀ a x, ((![v304, v307] : Fin 2 → IVec S16 32) a x).toNat < S256x8.size a)
theorem k1_idx47_inb : ∀ (v304 : IVec S16 32) (v307 : IVec S16 32) (k1_hw47 : k1_chk47 v304 v307), ∀ a x, ((![v304, v307] : Fin 2 → IVec S16 32) a x).toNat < S256x8.size a := fun v304 v307 k1_hw47 => k1_hw47

def k1_chk48 (v308 : IVec S16 32) : Prop :=
  (∀ a x, ((![v308] : Fin 1 → IVec S16 32) a x).toNat < S1024.size a)
theorem k1_idx48_inb : ∀ (v308 : IVec S16 32) (k1_hw48 : k1_chk48 v308), ∀ a x, ((![v308] : Fin 1 → IVec S16 32) a x).toNat < S1024.size a := fun v308 k1_hw48 => k1_hw48

def k1_chk49 (v310 : IVec S16 32) (v313 : IVec S16 32) : Prop :=
  (∀ a x, ((![v310, v313] : Fin 2 → IVec S16 32) a x).toNat < S256x8.size a)
theorem k1_idx49_inb : ∀ (v310 : IVec S16 32) (v313 : IVec S16 32) (k1_hw49 : k1_chk49 v310 v313), ∀ a x, ((![v310, v313] : Fin 2 → IVec S16 32) a x).toNat < S256x8.size a := fun v310 v313 k1_hw49 => k1_hw49

def k1_chk50 (v314 : IVec S16 32) : Prop :=
  (∀ a x, ((![v314] : Fin 1 → IVec S16 32) a x).toNat < S1024.size a)
theorem k1_idx50_inb : ∀ (v314 : IVec S16 32) (k1_hw50 : k1_chk50 v314), ∀ a x, ((![v314] : Fin 1 → IVec S16 32) a x).toNat < S1024.size a := fun v314 k1_hw50 => k1_hw50

def k1_chk51 (v316 : IVec S16 32) (v319 : IVec S16 32) : Prop :=
  (∀ a x, ((![v316, v319] : Fin 2 → IVec S16 32) a x).toNat < S256x8.size a)
theorem k1_idx51_inb : ∀ (v316 : IVec S16 32) (v319 : IVec S16 32) (k1_hw51 : k1_chk51 v316 v319), ∀ a x, ((![v316, v319] : Fin 2 → IVec S16 32) a x).toNat < S256x8.size a := fun v316 v319 k1_hw51 => k1_hw51

def k1_chk52 (v320 : IVec S16 32) : Prop :=
  (∀ a x, ((![v320] : Fin 1 → IVec S16 32) a x).toNat < S1024.size a)
theorem k1_idx52_inb : ∀ (v320 : IVec S16 32) (k1_hw52 : k1_chk52 v320), ∀ a x, ((![v320] : Fin 1 → IVec S16 32) a x).toNat < S1024.size a := fun v320 k1_hw52 => k1_hw52

def k1_chk53 (v322 : IVec S16 32) (v325 : IVec S16 32) : Prop :=
  (∀ a x, ((![v322, v325] : Fin 2 → IVec S16 32) a x).toNat < S256x8.size a)
theorem k1_idx53_inb : ∀ (v322 : IVec S16 32) (v325 : IVec S16 32) (k1_hw53 : k1_chk53 v322 v325), ∀ a x, ((![v322, v325] : Fin 2 → IVec S16 32) a x).toNat < S256x8.size a := fun v322 v325 k1_hw53 => k1_hw53

def k1_chk54 (v326 : IVec S16 32) : Prop :=
  (∀ a x, ((![v326] : Fin 1 → IVec S16 32) a x).toNat < S1024.size a)
theorem k1_idx54_inb : ∀ (v326 : IVec S16 32) (k1_hw54 : k1_chk54 v326), ∀ a x, ((![v326] : Fin 1 → IVec S16 32) a x).toNat < S1024.size a := fun v326 k1_hw54 => k1_hw54

def k1_chk55 (v328 : IVec S16 32) (v331 : IVec S16 32) : Prop :=
  (∀ a x, ((![v328, v331] : Fin 2 → IVec S16 32) a x).toNat < S256x8.size a)
theorem k1_idx55_inb : ∀ (v328 : IVec S16 32) (v331 : IVec S16 32) (k1_hw55 : k1_chk55 v328 v331), ∀ a x, ((![v328, v331] : Fin 2 → IVec S16 32) a x).toNat < S256x8.size a := fun v328 v331 k1_hw55 => k1_hw55

def k1_chk56 (v332 : IVec S16 32) : Prop :=
  (∀ a x, ((![v332] : Fin 1 → IVec S16 32) a x).toNat < S1024.size a)
theorem k1_idx56_inb : ∀ (v332 : IVec S16 32) (k1_hw56 : k1_chk56 v332), ∀ a x, ((![v332] : Fin 1 → IVec S16 32) a x).toNat < S1024.size a := fun v332 k1_hw56 => k1_hw56

def k1_chk57 (v334 : IVec S16 32) (v337 : IVec S16 32) : Prop :=
  (∀ a x, ((![v334, v337] : Fin 2 → IVec S16 32) a x).toNat < S256x8.size a)
theorem k1_idx57_inb : ∀ (v334 : IVec S16 32) (v337 : IVec S16 32) (k1_hw57 : k1_chk57 v334 v337), ∀ a x, ((![v334, v337] : Fin 2 → IVec S16 32) a x).toNat < S256x8.size a := fun v334 v337 k1_hw57 => k1_hw57

def k1_chk58 (v338 : IVec S16 32) : Prop :=
  (∀ a x, ((![v338] : Fin 1 → IVec S16 32) a x).toNat < S1024.size a)
theorem k1_idx58_inb : ∀ (v338 : IVec S16 32) (k1_hw58 : k1_chk58 v338), ∀ a x, ((![v338] : Fin 1 → IVec S16 32) a x).toNat < S1024.size a := fun v338 k1_hw58 => k1_hw58

def k1_chk59 (v340 : IVec S16 32) (v343 : IVec S16 32) : Prop :=
  (∀ a x, ((![v340, v343] : Fin 2 → IVec S16 32) a x).toNat < S256x8.size a)
theorem k1_idx59_inb : ∀ (v340 : IVec S16 32) (v343 : IVec S16 32) (k1_hw59 : k1_chk59 v340 v343), ∀ a x, ((![v340, v343] : Fin 2 → IVec S16 32) a x).toNat < S256x8.size a := fun v340 v343 k1_hw59 => k1_hw59

def k1_chk60 (v344 : IVec S16 32) : Prop :=
  (∀ a x, ((![v344] : Fin 1 → IVec S16 32) a x).toNat < S1024.size a)
theorem k1_idx60_inb : ∀ (v344 : IVec S16 32) (k1_hw60 : k1_chk60 v344), ∀ a x, ((![v344] : Fin 1 → IVec S16 32) a x).toNat < S1024.size a := fun v344 k1_hw60 => k1_hw60

def k1_chk61 (v346 : IVec S16 32) (v349 : IVec S16 32) : Prop :=
  (∀ a x, ((![v346, v349] : Fin 2 → IVec S16 32) a x).toNat < S256x8.size a)
theorem k1_idx61_inb : ∀ (v346 : IVec S16 32) (v349 : IVec S16 32) (k1_hw61 : k1_chk61 v346 v349), ∀ a x, ((![v346, v349] : Fin 2 → IVec S16 32) a x).toNat < S256x8.size a := fun v346 v349 k1_hw61 => k1_hw61

def k1_chk62 (v350 : IVec S16 32) : Prop :=
  (∀ a x, ((![v350] : Fin 1 → IVec S16 32) a x).toNat < S1024.size a)
theorem k1_idx62_inb : ∀ (v350 : IVec S16 32) (k1_hw62 : k1_chk62 v350), ∀ a x, ((![v350] : Fin 1 → IVec S16 32) a x).toNat < S1024.size a := fun v350 k1_hw62 => k1_hw62

def k1_chk63 (v352 : IVec S16 32) (v355 : IVec S16 32) : Prop :=
  (∀ a x, ((![v352, v355] : Fin 2 → IVec S16 32) a x).toNat < S256x8.size a)
theorem k1_idx63_inb : ∀ (v352 : IVec S16 32) (v355 : IVec S16 32) (k1_hw63 : k1_chk63 v352 v355), ∀ a x, ((![v352, v355] : Fin 2 → IVec S16 32) a x).toNat < S256x8.size a := fun v352 v355 k1_hw63 => k1_hw63

def k1_chk64 (v356 : IVec S16 32) : Prop :=
  (∀ a x, ((![v356] : Fin 1 → IVec S16 32) a x).toNat < S1024.size a)
theorem k1_idx64_inb : ∀ (v356 : IVec S16 32) (k1_hw64 : k1_chk64 v356), ∀ a x, ((![v356] : Fin 1 → IVec S16 32) a x).toNat < S1024.size a := fun v356 k1_hw64 => k1_hw64
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  let v6 : BitVec 1 := Scalar.cmpi .sgt v1 c0_i32_1
  let v7 : BitVec 32 := Scalar.extui v6
  let c0_i32_2 : BitVec 32 := 0#32
  let v8 : BitVec 1 := Scalar.cmpi .slt v1 c0_i32_2
  let v9 : BitVec 32 := Scalar.extui v8
  let v10 : BitVec 32 := Scalar.subi v7 v9
  let c2_i32_0 : BitVec 32 := 2#32
  let c0_i32_3 : BitVec 32 := 0#32
  let v11 : BitVec 1 := Scalar.cmpi .sgt c2_i32_0 c0_i32_3
  let v12 : BitVec 32 := Scalar.extui v11
  let c0_i32_4 : BitVec 32 := 0#32
  let v13 : BitVec 1 := Scalar.cmpi .slt c2_i32_0 c0_i32_4
  let v14 : BitVec 32 := Scalar.extui v13
  let v15 : BitVec 32 := Scalar.subi v12 v14
  let v16 : BitVec 1 := Scalar.cmpi .ne v10 v15
  let v17 : BitVec 32 := Scalar.remsi v1 c2_i32_0
  let c0_i32_5 : BitVec 32 := 0#32
  let v18 : BitVec 1 := Scalar.cmpi .ne v17 c0_i32_5
  let v19 : BitVec 1 := Scalar.andi v16 v18
  let v5 : BitVec 32 := Scalar.divsi v1 c2_i32_0
  let c1_i32_6 : BitVec 32 := 1#32
  let v20 : BitVec 32 := Scalar.subi v5 c1_i32_6
  let v21 : BitVec 32 := Scalar.select v19 v20 v5
  let c8_i32_128 : BitVec 32 := 8#32
  let v357 : BitVec 32 := Scalar.muli v21 c8_i32_128
  let c2_i32_7 : BitVec 32 := 2#32
  let c0_i32_8 : BitVec 32 := 0#32
  let v22 : BitVec 1 := Scalar.cmpi .eq c2_i32_7 c0_i32_8
  let c1_i32_9 : BitVec 32 := 1#32
  let v23 : BitVec 32 := Scalar.select v22 c1_i32_9 c2_i32_7
  let v24 : BitVec 32 := Scalar.remsi v1 v23
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let c0_i32_10 : BitVec 32 := 0#32
  let v25 : BitVec 1 := Scalar.cmpi .ne v24 c0_i32_10
  let v29 : BitVec 1 := Scalar.andi v28 v25
  let v30 : BitVec 32 := Scalar.addi v24 v23
  let v31 : BitVec 32 := Scalar.select v29 v30 v24
  let c4_i32 : BitVec 32 := 4#32
  let v32 : BitVec 32 := Scalar.muli v31 c4_i32
  let c1_i32_31 : BitVec 32 := 1#32
  let v196 : BitVec 32 := Scalar.addi v32 c1_i32_31
  let v358 : BitVec 32 := Scalar.addi v357 v196
  let c0_i32_324_r2 : BitVec 32 := 0#32
  ![v358.toNat, 0]

def k1_chk65 (v425 : IVec S16 32) (v428 : IVec S16 32) : Prop :=
  (∀ a x, ((![v425, v428] : Fin 2 → IVec S16 32) a x).toNat < S256x8.size a)
theorem k1_idx65_inb : ∀ (v425 : IVec S16 32) (v428 : IVec S16 32) (k1_hw65 : k1_chk65 v425 v428), ∀ a x, ((![v425, v428] : Fin 2 → IVec S16 32) a x).toNat < S256x8.size a := fun v425 v428 k1_hw65 => k1_hw65

def k1_chk66 (v429 : IVec S16 32) : Prop :=
  (∀ a x, ((![v429] : Fin 1 → IVec S16 32) a x).toNat < S1024.size a)
theorem k1_idx66_inb : ∀ (v429 : IVec S16 32) (k1_hw66 : k1_chk66 v429), ∀ a x, ((![v429] : Fin 1 → IVec S16 32) a x).toNat < S1024.size a := fun v429 k1_hw66 => k1_hw66

def k1_chk67 (v431 : IVec S16 32) (v434 : IVec S16 32) : Prop :=
  (∀ a x, ((![v431, v434] : Fin 2 → IVec S16 32) a x).toNat < S256x8.size a)
theorem k1_idx67_inb : ∀ (v431 : IVec S16 32) (v434 : IVec S16 32) (k1_hw67 : k1_chk67 v431 v434), ∀ a x, ((![v431, v434] : Fin 2 → IVec S16 32) a x).toNat < S256x8.size a := fun v431 v434 k1_hw67 => k1_hw67

def k1_chk68 (v435 : IVec S16 32) : Prop :=
  (∀ a x, ((![v435] : Fin 1 → IVec S16 32) a x).toNat < S1024.size a)
theorem k1_idx68_inb : ∀ (v435 : IVec S16 32) (k1_hw68 : k1_chk68 v435), ∀ a x, ((![v435] : Fin 1 → IVec S16 32) a x).toNat < S1024.size a := fun v435 k1_hw68 => k1_hw68

def k1_chk69 (v437 : IVec S16 32) (v440 : IVec S16 32) : Prop :=
  (∀ a x, ((![v437, v440] : Fin 2 → IVec S16 32) a x).toNat < S256x8.size a)
theorem k1_idx69_inb : ∀ (v437 : IVec S16 32) (v440 : IVec S16 32) (k1_hw69 : k1_chk69 v437 v440), ∀ a x, ((![v437, v440] : Fin 2 → IVec S16 32) a x).toNat < S256x8.size a := fun v437 v440 k1_hw69 => k1_hw69

def k1_chk70 (v441 : IVec S16 32) : Prop :=
  (∀ a x, ((![v441] : Fin 1 → IVec S16 32) a x).toNat < S1024.size a)
theorem k1_idx70_inb : ∀ (v441 : IVec S16 32) (k1_hw70 : k1_chk70 v441), ∀ a x, ((![v441] : Fin 1 → IVec S16 32) a x).toNat < S1024.size a := fun v441 k1_hw70 => k1_hw70

def k1_chk71 (v443 : IVec S16 32) (v446 : IVec S16 32) : Prop :=
  (∀ a x, ((![v443, v446] : Fin 2 → IVec S16 32) a x).toNat < S256x8.size a)
theorem k1_idx71_inb : ∀ (v443 : IVec S16 32) (v446 : IVec S16 32) (k1_hw71 : k1_chk71 v443 v446), ∀ a x, ((![v443, v446] : Fin 2 → IVec S16 32) a x).toNat < S256x8.size a := fun v443 v446 k1_hw71 => k1_hw71

def k1_chk72 (v447 : IVec S16 32) : Prop :=
  (∀ a x, ((![v447] : Fin 1 → IVec S16 32) a x).toNat < S1024.size a)
theorem k1_idx72_inb : ∀ (v447 : IVec S16 32) (k1_hw72 : k1_chk72 v447), ∀ a x, ((![v447] : Fin 1 → IVec S16 32) a x).toNat < S1024.size a := fun v447 k1_hw72 => k1_hw72

def k1_chk73 (v449 : IVec S16 32) (v452 : IVec S16 32) : Prop :=
  (∀ a x, ((![v449, v452] : Fin 2 → IVec S16 32) a x).toNat < S256x8.size a)
theorem k1_idx73_inb : ∀ (v449 : IVec S16 32) (v452 : IVec S16 32) (k1_hw73 : k1_chk73 v449 v452), ∀ a x, ((![v449, v452] : Fin 2 → IVec S16 32) a x).toNat < S256x8.size a := fun v449 v452 k1_hw73 => k1_hw73

def k1_chk74 (v453 : IVec S16 32) : Prop :=
  (∀ a x, ((![v453] : Fin 1 → IVec S16 32) a x).toNat < S1024.size a)
theorem k1_idx74_inb : ∀ (v453 : IVec S16 32) (k1_hw74 : k1_chk74 v453), ∀ a x, ((![v453] : Fin 1 → IVec S16 32) a x).toNat < S1024.size a := fun v453 k1_hw74 => k1_hw74

def k1_chk75 (v455 : IVec S16 32) (v458 : IVec S16 32) : Prop :=
  (∀ a x, ((![v455, v458] : Fin 2 → IVec S16 32) a x).toNat < S256x8.size a)
theorem k1_idx75_inb : ∀ (v455 : IVec S16 32) (v458 : IVec S16 32) (k1_hw75 : k1_chk75 v455 v458), ∀ a x, ((![v455, v458] : Fin 2 → IVec S16 32) a x).toNat < S256x8.size a := fun v455 v458 k1_hw75 => k1_hw75

def k1_chk76 (v459 : IVec S16 32) : Prop :=
  (∀ a x, ((![v459] : Fin 1 → IVec S16 32) a x).toNat < S1024.size a)
theorem k1_idx76_inb : ∀ (v459 : IVec S16 32) (k1_hw76 : k1_chk76 v459), ∀ a x, ((![v459] : Fin 1 → IVec S16 32) a x).toNat < S1024.size a := fun v459 k1_hw76 => k1_hw76

def k1_chk77 (v461 : IVec S16 32) (v464 : IVec S16 32) : Prop :=
  (∀ a x, ((![v461, v464] : Fin 2 → IVec S16 32) a x).toNat < S256x8.size a)
theorem k1_idx77_inb : ∀ (v461 : IVec S16 32) (v464 : IVec S16 32) (k1_hw77 : k1_chk77 v461 v464), ∀ a x, ((![v461, v464] : Fin 2 → IVec S16 32) a x).toNat < S256x8.size a := fun v461 v464 k1_hw77 => k1_hw77

def k1_chk78 (v465 : IVec S16 32) : Prop :=
  (∀ a x, ((![v465] : Fin 1 → IVec S16 32) a x).toNat < S1024.size a)
theorem k1_idx78_inb : ∀ (v465 : IVec S16 32) (k1_hw78 : k1_chk78 v465), ∀ a x, ((![v465] : Fin 1 → IVec S16 32) a x).toNat < S1024.size a := fun v465 k1_hw78 => k1_hw78

def k1_chk79 (v467 : IVec S16 32) (v470 : IVec S16 32) : Prop :=
  (∀ a x, ((![v467, v470] : Fin 2 → IVec S16 32) a x).toNat < S256x8.size a)
theorem k1_idx79_inb : ∀ (v467 : IVec S16 32) (v470 : IVec S16 32) (k1_hw79 : k1_chk79 v467 v470), ∀ a x, ((![v467, v470] : Fin 2 → IVec S16 32) a x).toNat < S256x8.size a := fun v467 v470 k1_hw79 => k1_hw79

def k1_chk80 (v471 : IVec S16 32) : Prop :=
  (∀ a x, ((![v471] : Fin 1 → IVec S16 32) a x).toNat < S1024.size a)
theorem k1_idx80_inb : ∀ (v471 : IVec S16 32) (k1_hw80 : k1_chk80 v471), ∀ a x, ((![v471] : Fin 1 → IVec S16 32) a x).toNat < S1024.size a := fun v471 k1_hw80 => k1_hw80

def k1_chk81 (v473 : IVec S16 32) (v476 : IVec S16 32) : Prop :=
  (∀ a x, ((![v473, v476] : Fin 2 → IVec S16 32) a x).toNat < S256x8.size a)
theorem k1_idx81_inb : ∀ (v473 : IVec S16 32) (v476 : IVec S16 32) (k1_hw81 : k1_chk81 v473 v476), ∀ a x, ((![v473, v476] : Fin 2 → IVec S16 32) a x).toNat < S256x8.size a := fun v473 v476 k1_hw81 => k1_hw81

def k1_chk82 (v477 : IVec S16 32) : Prop :=
  (∀ a x, ((![v477] : Fin 1 → IVec S16 32) a x).toNat < S1024.size a)
theorem k1_idx82_inb : ∀ (v477 : IVec S16 32) (k1_hw82 : k1_chk82 v477), ∀ a x, ((![v477] : Fin 1 → IVec S16 32) a x).toNat < S1024.size a := fun v477 k1_hw82 => k1_hw82

def k1_chk83 (v479 : IVec S16 32) (v482 : IVec S16 32) : Prop :=
  (∀ a x, ((![v479, v482] : Fin 2 → IVec S16 32) a x).toNat < S256x8.size a)
theorem k1_idx83_inb : ∀ (v479 : IVec S16 32) (v482 : IVec S16 32) (k1_hw83 : k1_chk83 v479 v482), ∀ a x, ((![v479, v482] : Fin 2 → IVec S16 32) a x).toNat < S256x8.size a := fun v479 v482 k1_hw83 => k1_hw83

def k1_chk84 (v483 : IVec S16 32) : Prop :=
  (∀ a x, ((![v483] : Fin 1 → IVec S16 32) a x).toNat < S1024.size a)
theorem k1_idx84_inb : ∀ (v483 : IVec S16 32) (k1_hw84 : k1_chk84 v483), ∀ a x, ((![v483] : Fin 1 → IVec S16 32) a x).toNat < S1024.size a := fun v483 k1_hw84 => k1_hw84

def k1_chk85 (v485 : IVec S16 32) (v488 : IVec S16 32) : Prop :=
  (∀ a x, ((![v485, v488] : Fin 2 → IVec S16 32) a x).toNat < S256x8.size a)
theorem k1_idx85_inb : ∀ (v485 : IVec S16 32) (v488 : IVec S16 32) (k1_hw85 : k1_chk85 v485 v488), ∀ a x, ((![v485, v488] : Fin 2 → IVec S16 32) a x).toNat < S256x8.size a := fun v485 v488 k1_hw85 => k1_hw85

def k1_chk86 (v489 : IVec S16 32) : Prop :=
  (∀ a x, ((![v489] : Fin 1 → IVec S16 32) a x).toNat < S1024.size a)
theorem k1_idx86_inb : ∀ (v489 : IVec S16 32) (k1_hw86 : k1_chk86 v489), ∀ a x, ((![v489] : Fin 1 → IVec S16 32) a x).toNat < S1024.size a := fun v489 k1_hw86 => k1_hw86

def k1_chk87 (v491 : IVec S16 32) (v494 : IVec S16 32) : Prop :=
  (∀ a x, ((![v491, v494] : Fin 2 → IVec S16 32) a x).toNat < S256x8.size a)
theorem k1_idx87_inb : ∀ (v491 : IVec S16 32) (v494 : IVec S16 32) (k1_hw87 : k1_chk87 v491 v494), ∀ a x, ((![v491, v494] : Fin 2 → IVec S16 32) a x).toNat < S256x8.size a := fun v491 v494 k1_hw87 => k1_hw87

def k1_chk88 (v495 : IVec S16 32) : Prop :=
  (∀ a x, ((![v495] : Fin 1 → IVec S16 32) a x).toNat < S1024.size a)
theorem k1_idx88_inb : ∀ (v495 : IVec S16 32) (k1_hw88 : k1_chk88 v495), ∀ a x, ((![v495] : Fin 1 → IVec S16 32) a x).toNat < S1024.size a := fun v495 k1_hw88 => k1_hw88

def k1_chk89 (v497 : IVec S16 32) (v500 : IVec S16 32) : Prop :=
  (∀ a x, ((![v497, v500] : Fin 2 → IVec S16 32) a x).toNat < S256x8.size a)
theorem k1_idx89_inb : ∀ (v497 : IVec S16 32) (v500 : IVec S16 32) (k1_hw89 : k1_chk89 v497 v500), ∀ a x, ((![v497, v500] : Fin 2 → IVec S16 32) a x).toNat < S256x8.size a := fun v497 v500 k1_hw89 => k1_hw89

def k1_chk90 (v501 : IVec S16 32) : Prop :=
  (∀ a x, ((![v501] : Fin 1 → IVec S16 32) a x).toNat < S1024.size a)
theorem k1_idx90_inb : ∀ (v501 : IVec S16 32) (k1_hw90 : k1_chk90 v501), ∀ a x, ((![v501] : Fin 1 → IVec S16 32) a x).toNat < S1024.size a := fun v501 k1_hw90 => k1_hw90

def k1_chk91 (v503 : IVec S16 32) (v506 : IVec S16 32) : Prop :=
  (∀ a x, ((![v503, v506] : Fin 2 → IVec S16 32) a x).toNat < S256x8.size a)
theorem k1_idx91_inb : ∀ (v503 : IVec S16 32) (v506 : IVec S16 32) (k1_hw91 : k1_chk91 v503 v506), ∀ a x, ((![v503, v506] : Fin 2 → IVec S16 32) a x).toNat < S256x8.size a := fun v503 v506 k1_hw91 => k1_hw91

def k1_chk92 (v507 : IVec S16 32) : Prop :=
  (∀ a x, ((![v507] : Fin 1 → IVec S16 32) a x).toNat < S1024.size a)
theorem k1_idx92_inb : ∀ (v507 : IVec S16 32) (k1_hw92 : k1_chk92 v507), ∀ a x, ((![v507] : Fin 1 → IVec S16 32) a x).toNat < S1024.size a := fun v507 k1_hw92 => k1_hw92

def k1_chk93 (v509 : IVec S16 32) (v512 : IVec S16 32) : Prop :=
  (∀ a x, ((![v509, v512] : Fin 2 → IVec S16 32) a x).toNat < S256x8.size a)
theorem k1_idx93_inb : ∀ (v509 : IVec S16 32) (v512 : IVec S16 32) (k1_hw93 : k1_chk93 v509 v512), ∀ a x, ((![v509, v512] : Fin 2 → IVec S16 32) a x).toNat < S256x8.size a := fun v509 v512 k1_hw93 => k1_hw93

def k1_chk94 (v513 : IVec S16 32) : Prop :=
  (∀ a x, ((![v513] : Fin 1 → IVec S16 32) a x).toNat < S1024.size a)
theorem k1_idx94_inb : ∀ (v513 : IVec S16 32) (k1_hw94 : k1_chk94 v513), ∀ a x, ((![v513] : Fin 1 → IVec S16 32) a x).toNat < S1024.size a := fun v513 k1_hw94 => k1_hw94

def k1_chk95 (v515 : IVec S16 32) (v518 : IVec S16 32) : Prop :=
  (∀ a x, ((![v515, v518] : Fin 2 → IVec S16 32) a x).toNat < S256x8.size a)
theorem k1_idx95_inb : ∀ (v515 : IVec S16 32) (v518 : IVec S16 32) (k1_hw95 : k1_chk95 v515 v518), ∀ a x, ((![v515, v518] : Fin 2 → IVec S16 32) a x).toNat < S256x8.size a := fun v515 v518 k1_hw95 => k1_hw95

def k1_chk96 (v519 : IVec S16 32) : Prop :=
  (∀ a x, ((![v519] : Fin 1 → IVec S16 32) a x).toNat < S1024.size a)
theorem k1_idx96_inb : ∀ (v519 : IVec S16 32) (k1_hw96 : k1_chk96 v519), ∀ a x, ((![v519] : Fin 1 → IVec S16 32) a x).toNat < S1024.size a := fun v519 k1_hw96 => k1_hw96
def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  let v6 : BitVec 1 := Scalar.cmpi .sgt v1 c0_i32_1
  let v7 : BitVec 32 := Scalar.extui v6
  let c0_i32_2 : BitVec 32 := 0#32
  let v8 : BitVec 1 := Scalar.cmpi .slt v1 c0_i32_2
  let v9 : BitVec 32 := Scalar.extui v8
  let v10 : BitVec 32 := Scalar.subi v7 v9
  let c2_i32_0 : BitVec 32 := 2#32
  let c0_i32_3 : BitVec 32 := 0#32
  let v11 : BitVec 1 := Scalar.cmpi .sgt c2_i32_0 c0_i32_3
  let v12 : BitVec 32 := Scalar.extui v11
  let c0_i32_4 : BitVec 32 := 0#32
  let v13 : BitVec 1 := Scalar.cmpi .slt c2_i32_0 c0_i32_4
  let v14 : BitVec 32 := Scalar.extui v13
  let v15 : BitVec 32 := Scalar.subi v12 v14
  let v16 : BitVec 1 := Scalar.cmpi .ne v10 v15
  let v17 : BitVec 32 := Scalar.remsi v1 c2_i32_0
  let c0_i32_5 : BitVec 32 := 0#32
  let v18 : BitVec 1 := Scalar.cmpi .ne v17 c0_i32_5
  let v19 : BitVec 1 := Scalar.andi v16 v18
  let v5 : BitVec 32 := Scalar.divsi v1 c2_i32_0
  let c1_i32_6 : BitVec 32 := 1#32
  let v20 : BitVec 32 := Scalar.subi v5 c1_i32_6
  let v21 : BitVec 32 := Scalar.select v19 v20 v5
  let c8_i32_226 : BitVec 32 := 8#32
  let v520 : BitVec 32 := Scalar.muli v21 c8_i32_226
  let c2_i32_7 : BitVec 32 := 2#32
  let c0_i32_8 : BitVec 32 := 0#32
  let v22 : BitVec 1 := Scalar.cmpi .eq c2_i32_7 c0_i32_8
  let c1_i32_9 : BitVec 32 := 1#32
  let v23 : BitVec 32 := Scalar.select v22 c1_i32_9 c2_i32_7
  let v24 : BitVec 32 := Scalar.remsi v1 v23
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let c0_i32_10 : BitVec 32 := 0#32
  let v25 : BitVec 1 := Scalar.cmpi .ne v24 c0_i32_10
  let v29 : BitVec 1 := Scalar.andi v28 v25
  let v30 : BitVec 32 := Scalar.addi v24 v23
  let v31 : BitVec 32 := Scalar.select v29 v30 v24
  let c4_i32 : BitVec 32 := 4#32
  let v32 : BitVec 32 := Scalar.muli v31 c4_i32
  let c2_i32_129 : BitVec 32 := 2#32
  let v359 : BitVec 32 := Scalar.addi v32 c2_i32_129
  let v521 : BitVec 32 := Scalar.addi v520 v359
  let c0_i32_324_r3 : BitVec 32 := 0#32
  ![v521.toNat, 0]

def k1_chk97 (v588 : IVec S16 32) (v591 : IVec S16 32) : Prop :=
  (∀ a x, ((![v588, v591] : Fin 2 → IVec S16 32) a x).toNat < S256x8.size a)
theorem k1_idx97_inb : ∀ (v588 : IVec S16 32) (v591 : IVec S16 32) (k1_hw97 : k1_chk97 v588 v591), ∀ a x, ((![v588, v591] : Fin 2 → IVec S16 32) a x).toNat < S256x8.size a := fun v588 v591 k1_hw97 => k1_hw97

def k1_chk98 (v592 : IVec S16 32) : Prop :=
  (∀ a x, ((![v592] : Fin 1 → IVec S16 32) a x).toNat < S1024.size a)
theorem k1_idx98_inb : ∀ (v592 : IVec S16 32) (k1_hw98 : k1_chk98 v592), ∀ a x, ((![v592] : Fin 1 → IVec S16 32) a x).toNat < S1024.size a := fun v592 k1_hw98 => k1_hw98

def k1_chk99 (v594 : IVec S16 32) (v597 : IVec S16 32) : Prop :=
  (∀ a x, ((![v594, v597] : Fin 2 → IVec S16 32) a x).toNat < S256x8.size a)
theorem k1_idx99_inb : ∀ (v594 : IVec S16 32) (v597 : IVec S16 32) (k1_hw99 : k1_chk99 v594 v597), ∀ a x, ((![v594, v597] : Fin 2 → IVec S16 32) a x).toNat < S256x8.size a := fun v594 v597 k1_hw99 => k1_hw99

def k1_chk100 (v598 : IVec S16 32) : Prop :=
  (∀ a x, ((![v598] : Fin 1 → IVec S16 32) a x).toNat < S1024.size a)
theorem k1_idx100_inb : ∀ (v598 : IVec S16 32) (k1_hw100 : k1_chk100 v598), ∀ a x, ((![v598] : Fin 1 → IVec S16 32) a x).toNat < S1024.size a := fun v598 k1_hw100 => k1_hw100

def k1_chk101 (v600 : IVec S16 32) (v603 : IVec S16 32) : Prop :=
  (∀ a x, ((![v600, v603] : Fin 2 → IVec S16 32) a x).toNat < S256x8.size a)
theorem k1_idx101_inb : ∀ (v600 : IVec S16 32) (v603 : IVec S16 32) (k1_hw101 : k1_chk101 v600 v603), ∀ a x, ((![v600, v603] : Fin 2 → IVec S16 32) a x).toNat < S256x8.size a := fun v600 v603 k1_hw101 => k1_hw101

def k1_chk102 (v604 : IVec S16 32) : Prop :=
  (∀ a x, ((![v604] : Fin 1 → IVec S16 32) a x).toNat < S1024.size a)
theorem k1_idx102_inb : ∀ (v604 : IVec S16 32) (k1_hw102 : k1_chk102 v604), ∀ a x, ((![v604] : Fin 1 → IVec S16 32) a x).toNat < S1024.size a := fun v604 k1_hw102 => k1_hw102

def k1_chk103 (v606 : IVec S16 32) (v609 : IVec S16 32) : Prop :=
  (∀ a x, ((![v606, v609] : Fin 2 → IVec S16 32) a x).toNat < S256x8.size a)
theorem k1_idx103_inb : ∀ (v606 : IVec S16 32) (v609 : IVec S16 32) (k1_hw103 : k1_chk103 v606 v609), ∀ a x, ((![v606, v609] : Fin 2 → IVec S16 32) a x).toNat < S256x8.size a := fun v606 v609 k1_hw103 => k1_hw103

def k1_chk104 (v610 : IVec S16 32) : Prop :=
  (∀ a x, ((![v610] : Fin 1 → IVec S16 32) a x).toNat < S1024.size a)
theorem k1_idx104_inb : ∀ (v610 : IVec S16 32) (k1_hw104 : k1_chk104 v610), ∀ a x, ((![v610] : Fin 1 → IVec S16 32) a x).toNat < S1024.size a := fun v610 k1_hw104 => k1_hw104

def k1_chk105 (v612 : IVec S16 32) (v615 : IVec S16 32) : Prop :=
  (∀ a x, ((![v612, v615] : Fin 2 → IVec S16 32) a x).toNat < S256x8.size a)
theorem k1_idx105_inb : ∀ (v612 : IVec S16 32) (v615 : IVec S16 32) (k1_hw105 : k1_chk105 v612 v615), ∀ a x, ((![v612, v615] : Fin 2 → IVec S16 32) a x).toNat < S256x8.size a := fun v612 v615 k1_hw105 => k1_hw105

def k1_chk106 (v616 : IVec S16 32) : Prop :=
  (∀ a x, ((![v616] : Fin 1 → IVec S16 32) a x).toNat < S1024.size a)
theorem k1_idx106_inb : ∀ (v616 : IVec S16 32) (k1_hw106 : k1_chk106 v616), ∀ a x, ((![v616] : Fin 1 → IVec S16 32) a x).toNat < S1024.size a := fun v616 k1_hw106 => k1_hw106

def k1_chk107 (v618 : IVec S16 32) (v621 : IVec S16 32) : Prop :=
  (∀ a x, ((![v618, v621] : Fin 2 → IVec S16 32) a x).toNat < S256x8.size a)
theorem k1_idx107_inb : ∀ (v618 : IVec S16 32) (v621 : IVec S16 32) (k1_hw107 : k1_chk107 v618 v621), ∀ a x, ((![v618, v621] : Fin 2 → IVec S16 32) a x).toNat < S256x8.size a := fun v618 v621 k1_hw107 => k1_hw107

def k1_chk108 (v622 : IVec S16 32) : Prop :=
  (∀ a x, ((![v622] : Fin 1 → IVec S16 32) a x).toNat < S1024.size a)
theorem k1_idx108_inb : ∀ (v622 : IVec S16 32) (k1_hw108 : k1_chk108 v622), ∀ a x, ((![v622] : Fin 1 → IVec S16 32) a x).toNat < S1024.size a := fun v622 k1_hw108 => k1_hw108

def k1_chk109 (v624 : IVec S16 32) (v627 : IVec S16 32) : Prop :=
  (∀ a x, ((![v624, v627] : Fin 2 → IVec S16 32) a x).toNat < S256x8.size a)
theorem k1_idx109_inb : ∀ (v624 : IVec S16 32) (v627 : IVec S16 32) (k1_hw109 : k1_chk109 v624 v627), ∀ a x, ((![v624, v627] : Fin 2 → IVec S16 32) a x).toNat < S256x8.size a := fun v624 v627 k1_hw109 => k1_hw109

def k1_chk110 (v628 : IVec S16 32) : Prop :=
  (∀ a x, ((![v628] : Fin 1 → IVec S16 32) a x).toNat < S1024.size a)
theorem k1_idx110_inb : ∀ (v628 : IVec S16 32) (k1_hw110 : k1_chk110 v628), ∀ a x, ((![v628] : Fin 1 → IVec S16 32) a x).toNat < S1024.size a := fun v628 k1_hw110 => k1_hw110

def k1_chk111 (v630 : IVec S16 32) (v633 : IVec S16 32) : Prop :=
  (∀ a x, ((![v630, v633] : Fin 2 → IVec S16 32) a x).toNat < S256x8.size a)
theorem k1_idx111_inb : ∀ (v630 : IVec S16 32) (v633 : IVec S16 32) (k1_hw111 : k1_chk111 v630 v633), ∀ a x, ((![v630, v633] : Fin 2 → IVec S16 32) a x).toNat < S256x8.size a := fun v630 v633 k1_hw111 => k1_hw111

def k1_chk112 (v634 : IVec S16 32) : Prop :=
  (∀ a x, ((![v634] : Fin 1 → IVec S16 32) a x).toNat < S1024.size a)
theorem k1_idx112_inb : ∀ (v634 : IVec S16 32) (k1_hw112 : k1_chk112 v634), ∀ a x, ((![v634] : Fin 1 → IVec S16 32) a x).toNat < S1024.size a := fun v634 k1_hw112 => k1_hw112

def k1_chk113 (v636 : IVec S16 32) (v639 : IVec S16 32) : Prop :=
  (∀ a x, ((![v636, v639] : Fin 2 → IVec S16 32) a x).toNat < S256x8.size a)
theorem k1_idx113_inb : ∀ (v636 : IVec S16 32) (v639 : IVec S16 32) (k1_hw113 : k1_chk113 v636 v639), ∀ a x, ((![v636, v639] : Fin 2 → IVec S16 32) a x).toNat < S256x8.size a := fun v636 v639 k1_hw113 => k1_hw113

def k1_chk114 (v640 : IVec S16 32) : Prop :=
  (∀ a x, ((![v640] : Fin 1 → IVec S16 32) a x).toNat < S1024.size a)
theorem k1_idx114_inb : ∀ (v640 : IVec S16 32) (k1_hw114 : k1_chk114 v640), ∀ a x, ((![v640] : Fin 1 → IVec S16 32) a x).toNat < S1024.size a := fun v640 k1_hw114 => k1_hw114

def k1_chk115 (v642 : IVec S16 32) (v645 : IVec S16 32) : Prop :=
  (∀ a x, ((![v642, v645] : Fin 2 → IVec S16 32) a x).toNat < S256x8.size a)
theorem k1_idx115_inb : ∀ (v642 : IVec S16 32) (v645 : IVec S16 32) (k1_hw115 : k1_chk115 v642 v645), ∀ a x, ((![v642, v645] : Fin 2 → IVec S16 32) a x).toNat < S256x8.size a := fun v642 v645 k1_hw115 => k1_hw115

def k1_chk116 (v646 : IVec S16 32) : Prop :=
  (∀ a x, ((![v646] : Fin 1 → IVec S16 32) a x).toNat < S1024.size a)
theorem k1_idx116_inb : ∀ (v646 : IVec S16 32) (k1_hw116 : k1_chk116 v646), ∀ a x, ((![v646] : Fin 1 → IVec S16 32) a x).toNat < S1024.size a := fun v646 k1_hw116 => k1_hw116

def k1_chk117 (v648 : IVec S16 32) (v651 : IVec S16 32) : Prop :=
  (∀ a x, ((![v648, v651] : Fin 2 → IVec S16 32) a x).toNat < S256x8.size a)
theorem k1_idx117_inb : ∀ (v648 : IVec S16 32) (v651 : IVec S16 32) (k1_hw117 : k1_chk117 v648 v651), ∀ a x, ((![v648, v651] : Fin 2 → IVec S16 32) a x).toNat < S256x8.size a := fun v648 v651 k1_hw117 => k1_hw117

def k1_chk118 (v652 : IVec S16 32) : Prop :=
  (∀ a x, ((![v652] : Fin 1 → IVec S16 32) a x).toNat < S1024.size a)
theorem k1_idx118_inb : ∀ (v652 : IVec S16 32) (k1_hw118 : k1_chk118 v652), ∀ a x, ((![v652] : Fin 1 → IVec S16 32) a x).toNat < S1024.size a := fun v652 k1_hw118 => k1_hw118

def k1_chk119 (v654 : IVec S16 32) (v657 : IVec S16 32) : Prop :=
  (∀ a x, ((![v654, v657] : Fin 2 → IVec S16 32) a x).toNat < S256x8.size a)
theorem k1_idx119_inb : ∀ (v654 : IVec S16 32) (v657 : IVec S16 32) (k1_hw119 : k1_chk119 v654 v657), ∀ a x, ((![v654, v657] : Fin 2 → IVec S16 32) a x).toNat < S256x8.size a := fun v654 v657 k1_hw119 => k1_hw119

def k1_chk120 (v658 : IVec S16 32) : Prop :=
  (∀ a x, ((![v658] : Fin 1 → IVec S16 32) a x).toNat < S1024.size a)
theorem k1_idx120_inb : ∀ (v658 : IVec S16 32) (k1_hw120 : k1_chk120 v658), ∀ a x, ((![v658] : Fin 1 → IVec S16 32) a x).toNat < S1024.size a := fun v658 k1_hw120 => k1_hw120

def k1_chk121 (v660 : IVec S16 32) (v663 : IVec S16 32) : Prop :=
  (∀ a x, ((![v660, v663] : Fin 2 → IVec S16 32) a x).toNat < S256x8.size a)
theorem k1_idx121_inb : ∀ (v660 : IVec S16 32) (v663 : IVec S16 32) (k1_hw121 : k1_chk121 v660 v663), ∀ a x, ((![v660, v663] : Fin 2 → IVec S16 32) a x).toNat < S256x8.size a := fun v660 v663 k1_hw121 => k1_hw121

def k1_chk122 (v664 : IVec S16 32) : Prop :=
  (∀ a x, ((![v664] : Fin 1 → IVec S16 32) a x).toNat < S1024.size a)
theorem k1_idx122_inb : ∀ (v664 : IVec S16 32) (k1_hw122 : k1_chk122 v664), ∀ a x, ((![v664] : Fin 1 → IVec S16 32) a x).toNat < S1024.size a := fun v664 k1_hw122 => k1_hw122

def k1_chk123 (v666 : IVec S16 32) (v669 : IVec S16 32) : Prop :=
  (∀ a x, ((![v666, v669] : Fin 2 → IVec S16 32) a x).toNat < S256x8.size a)
theorem k1_idx123_inb : ∀ (v666 : IVec S16 32) (v669 : IVec S16 32) (k1_hw123 : k1_chk123 v666 v669), ∀ a x, ((![v666, v669] : Fin 2 → IVec S16 32) a x).toNat < S256x8.size a := fun v666 v669 k1_hw123 => k1_hw123

def k1_chk124 (v670 : IVec S16 32) : Prop :=
  (∀ a x, ((![v670] : Fin 1 → IVec S16 32) a x).toNat < S1024.size a)
theorem k1_idx124_inb : ∀ (v670 : IVec S16 32) (k1_hw124 : k1_chk124 v670), ∀ a x, ((![v670] : Fin 1 → IVec S16 32) a x).toNat < S1024.size a := fun v670 k1_hw124 => k1_hw124

def k1_chk125 (v672 : IVec S16 32) (v675 : IVec S16 32) : Prop :=
  (∀ a x, ((![v672, v675] : Fin 2 → IVec S16 32) a x).toNat < S256x8.size a)
theorem k1_idx125_inb : ∀ (v672 : IVec S16 32) (v675 : IVec S16 32) (k1_hw125 : k1_chk125 v672 v675), ∀ a x, ((![v672, v675] : Fin 2 → IVec S16 32) a x).toNat < S256x8.size a := fun v672 v675 k1_hw125 => k1_hw125

def k1_chk126 (v676 : IVec S16 32) : Prop :=
  (∀ a x, ((![v676] : Fin 1 → IVec S16 32) a x).toNat < S1024.size a)
theorem k1_idx126_inb : ∀ (v676 : IVec S16 32) (k1_hw126 : k1_chk126 v676), ∀ a x, ((![v676] : Fin 1 → IVec S16 32) a x).toNat < S1024.size a := fun v676 k1_hw126 => k1_hw126

def k1_chk127 (v678 : IVec S16 32) (v681 : IVec S16 32) : Prop :=
  (∀ a x, ((![v678, v681] : Fin 2 → IVec S16 32) a x).toNat < S256x8.size a)
theorem k1_idx127_inb : ∀ (v678 : IVec S16 32) (v681 : IVec S16 32) (k1_hw127 : k1_chk127 v678 v681), ∀ a x, ((![v678, v681] : Fin 2 → IVec S16 32) a x).toNat < S256x8.size a := fun v678 v681 k1_hw127 => k1_hw127

def k1_chk128 (v682 : IVec S16 32) : Prop :=
  (∀ a x, ((![v682] : Fin 1 → IVec S16 32) a x).toNat < S1024.size a)
theorem k1_idx128_inb : ∀ (v682 : IVec S16 32) (k1_hw128 : k1_chk128 v682), ∀ a x, ((![v682] : Fin 1 → IVec S16 32) a x).toNat < S1024.size a := fun v682 k1_hw128 => k1_hw128
def k1_off5 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  let v6 : BitVec 1 := Scalar.cmpi .sgt v1 c0_i32_1
  let v7 : BitVec 32 := Scalar.extui v6
  let c0_i32_2 : BitVec 32 := 0#32
  let v8 : BitVec 1 := Scalar.cmpi .slt v1 c0_i32_2
  let v9 : BitVec 32 := Scalar.extui v8
  let v10 : BitVec 32 := Scalar.subi v7 v9
  let c2_i32_0 : BitVec 32 := 2#32
  let c0_i32_3 : BitVec 32 := 0#32
  let v11 : BitVec 1 := Scalar.cmpi .sgt c2_i32_0 c0_i32_3
  let v12 : BitVec 32 := Scalar.extui v11
  let c0_i32_4 : BitVec 32 := 0#32
  let v13 : BitVec 1 := Scalar.cmpi .slt c2_i32_0 c0_i32_4
  let v14 : BitVec 32 := Scalar.extui v13
  let v15 : BitVec 32 := Scalar.subi v12 v14
  let v16 : BitVec 1 := Scalar.cmpi .ne v10 v15
  let v17 : BitVec 32 := Scalar.remsi v1 c2_i32_0
  let c0_i32_5 : BitVec 32 := 0#32
  let v18 : BitVec 1 := Scalar.cmpi .ne v17 c0_i32_5
  let v19 : BitVec 1 := Scalar.andi v16 v18
  let v5 : BitVec 32 := Scalar.divsi v1 c2_i32_0
  let c1_i32_6 : BitVec 32 := 1#32
  let v20 : BitVec 32 := Scalar.subi v5 c1_i32_6
  let v21 : BitVec 32 := Scalar.select v19 v20 v5
  let c8_i32_323 : BitVec 32 := 8#32
  let v683 : BitVec 32 := Scalar.muli v21 c8_i32_323
  let c2_i32_7 : BitVec 32 := 2#32
  let c0_i32_8 : BitVec 32 := 0#32
  let v22 : BitVec 1 := Scalar.cmpi .eq c2_i32_7 c0_i32_8
  let c1_i32_9 : BitVec 32 := 1#32
  let v23 : BitVec 32 := Scalar.select v22 c1_i32_9 c2_i32_7
  let v24 : BitVec 32 := Scalar.remsi v1 v23
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let c0_i32_10 : BitVec 32 := 0#32
  let v25 : BitVec 1 := Scalar.cmpi .ne v24 c0_i32_10
  let v29 : BitVec 1 := Scalar.andi v28 v25
  let v30 : BitVec 32 := Scalar.addi v24 v23
  let v31 : BitVec 32 := Scalar.select v29 v30 v24
  let c4_i32 : BitVec 32 := 4#32
  let v32 : BitVec 32 := Scalar.muli v31 c4_i32
  let c3_i32 : BitVec 32 := 3#32
  let v522 : BitVec 32 := Scalar.addi v32 c3_i32
  let v684 : BitVec 32 := Scalar.addi v683 v522
  let c0_i32_324_r4 : BitVec 32 := 0#32
  ![v684.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x1024x768 : Shape := ⟨3, ![128, 1024, 768]⟩
abbrev S_ : Shape := ⟨0, ![]⟩
abbrev S1 : Shape := ⟨1, ![1]⟩
abbrev S2 : Shape := ⟨1, ![2]⟩
abbrev S1x1 : Shape := ⟨2, ![1, 1]⟩
abbrev S128x1024 : Shape := ⟨2, ![128, 1024]⟩

abbrev nBuf : Space → Nat
  | .hbm => 281
  | .vmem => 0
  | .smem => 0
  | _ => 0

abbrev hbmTy0_0 (i : Nat) : BufTy := match i % 128 with
  | 0 => ⟨S128x1024x768, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S128x1024, .i64⟩
  | 22 => ⟨S128x1024, .i64⟩
  | 23 => ⟨S_, .i64⟩
  | 24 => ⟨S128x1024, .i64⟩
  | 25 => ⟨S128x1024, .i64⟩
  | 26 => ⟨S_, .i64⟩
  | 27 => ⟨S128x1024, .i64⟩
  | 28 => ⟨S128x1024, .i64⟩
  | 29 => ⟨S128x1024, .i64⟩
  | 30 => ⟨S_, .i64⟩
  | 31 => ⟨S128x1024, .i64⟩
  | 32 => ⟨S128x1024, .i64⟩
  | 33 => ⟨S128x1024, .i32⟩
  | 34 => ⟨S128x1024, .i32⟩
  | 35 => ⟨S_, .i32⟩
  | 36 => ⟨S_, .i32⟩
  | 37 => ⟨S_, .i32⟩
  | 38 => ⟨S128x1024, .i32⟩
  | 39 => ⟨S128x1024, .i32⟩
  | 40 => ⟨S128x1024, .i32⟩
  | 41 => ⟨S128x1024, .i32⟩
  | 42 => ⟨S128x1024, .i32⟩
  | 43 => ⟨S_, .i32⟩
  | 44 => ⟨S128x1024, .i32⟩
  | 45 => ⟨S128x1024, .i32⟩
  | 46 => ⟨S_, .i32⟩
  | 47 => ⟨S128x1024, .i32⟩
  | 48 => ⟨S128x1024, .i32⟩
  | 49 => ⟨S128x1024, .i32⟩
  | 50 => ⟨S128x1024, .i32⟩
  | 51 => ⟨S128x1024, .i32⟩
  | 52 => ⟨S_, .i32⟩
  | 53 => ⟨S128x1024, .i32⟩
  | 54 => ⟨S128x1024, .i32⟩
  | 55 => ⟨S_, .i32⟩
  | 56 => ⟨S128x1024, .i32⟩
  | 57 => ⟨S128x1024, .i32⟩
  | 58 => ⟨S128x1024, .i32⟩
  | 59 => ⟨S128x1024, .i32⟩
  | 60 => ⟨S128x1024, .i32⟩
  | 61 => ⟨S_, .i32⟩
  | 62 => ⟨S128x1024, .i32⟩
  | 63 => ⟨S128x1024, .i32⟩
  | 64 => ⟨S_, .i32⟩
  | 65 => ⟨S128x1024, .i32⟩
  | 66 => ⟨S128x1024, .i32⟩
  | 67 => ⟨S128x1024, .i32⟩
  | 68 => ⟨S128x1024, .i32⟩
  | 69 => ⟨S128x1024, .i32⟩
  | 70 => ⟨S_, .i32⟩
  | 71 => ⟨S128x1024, .i32⟩
  | 72 => ⟨S128x1024, .i32⟩
  | 73 => ⟨S_, .i32⟩
  | 74 => ⟨S128x1024, .i32⟩
  | 75 => ⟨S128x1024, .i32⟩
  | 76 => ⟨S128x1024, .i32⟩
  | 77 => ⟨S128x1024, .i32⟩
  | 78 => ⟨S128x1024, .i32⟩
  | 79 => ⟨S128x1024, .i32⟩
  | 80 => ⟨S128x1024, .i32⟩
  | 81 => ⟨S128x1024, .i32⟩
  | 82 => ⟨S_, .i32⟩
  | 83 => ⟨S128x1024, .i32⟩
  | 84 => ⟨S128x1024, .i32⟩
  | 85 => ⟨S128x1024, .i32⟩
  | 86 => ⟨S_, .i32⟩
  | 87 => ⟨S128x1024, .i32⟩
  | 88 => ⟨S128x1024, .i32⟩
  | 89 => ⟨S_, .i32⟩
  | 90 => ⟨S128x1024, .i32⟩
  | 91 => ⟨S128x1024, .i32⟩
  | 92 => ⟨S128x1024, .i32⟩
  | 93 => ⟨S128x1024, .i32⟩
  | 94 => ⟨S128x1024, .i32⟩
  | 95 => ⟨S_, .i32⟩
  | 96 => ⟨S128x1024, .i32⟩
  | 97 => ⟨S128x1024, .i32⟩
  | 98 => ⟨S_, .i32⟩
  | 99 => ⟨S128x1024, .i32⟩
  | 100 => ⟨S128x1024, .i32⟩
  | 101 => ⟨S128x1024, .i32⟩
  | 102 => ⟨S128x1024, .i32⟩
  | 103 => ⟨S128x1024, .i32⟩
  | 104 => ⟨S_, .i32⟩
  | 105 => ⟨S128x1024, .i32⟩
  | 106 => ⟨S128x1024, .i32⟩
  | 107 => ⟨S_, .i32⟩
  | 108 => ⟨S128x1024, .i32⟩
  | 109 => ⟨S128x1024, .i32⟩
  | 110 => ⟨S128x1024, .i32⟩
  | 111 => ⟨S128x1024, .i32⟩
  | 112 => ⟨S128x1024, .i32⟩
  | 113 => ⟨S_, .i32⟩
  | 114 => ⟨S128x1024, .i32⟩
  | 115 => ⟨S128x1024, .i32⟩
  | 116 => ⟨S_, .i32⟩
  | 117 => ⟨S128x1024, .i32⟩
  | 118 => ⟨S128x1024, .i32⟩
  | 119 => ⟨S128x1024, .i32⟩
  | 120 => ⟨S128x1024, .i32⟩
  | 121 => ⟨S128x1024, .i32⟩
  | 122 => ⟨S128x1024, .i32⟩
  | 123 => ⟨S128x1024, .i32⟩
  | 124 => ⟨S128x1024, .i32⟩
  | 125 => ⟨S_, .i32⟩
  | 126 => ⟨S128x1024, .i32⟩
  | 127 => ⟨S128x1024, .i32⟩
  | _ => ⟨S128x1024x768, .f32⟩

abbrev hbmTy0_1 (i : Nat) : BufTy := match i % 128 with
  | 0 => ⟨S128x1024, .i32⟩
  | 1 => ⟨S_, .i32⟩
  | 2 => ⟨S128x1024, .i32⟩
  | 3 => ⟨S128x1024, .i32⟩
  | 4 => ⟨S_, .i32⟩
  | 5 => ⟨S128x1024, .i32⟩
  | 6 => ⟨S128x1024, .i32⟩
  | 7 => ⟨S128x1024, .i32⟩
  | 8 => ⟨S128x1024, .i32⟩
  | 9 => ⟨S128x1024, .i32⟩
  | 10 => ⟨S_, .i32⟩
  | 11 => ⟨S128x1024, .i32⟩
  | 12 => ⟨S128x1024, .i32⟩
  | 13 => ⟨S_, .i32⟩
  | 14 => ⟨S128x1024, .i32⟩
  | 15 => ⟨S128x1024, .i32⟩
  | 16 => ⟨S128x1024, .i32⟩
  | 17 => ⟨S128x1024, .i32⟩
  | 18 => ⟨S128x1024, .i32⟩
  | 19 => ⟨S_, .i32⟩
  | 20 => ⟨S128x1024, .i32⟩
  | 21 => ⟨S128x1024, .i32⟩
  | 22 => ⟨S_, .i32⟩
  | 23 => ⟨S128x1024, .i32⟩
  | 24 => ⟨S128x1024, .i32⟩
  | 25 => ⟨S128x1024, .i32⟩
  | 26 => ⟨S128x1024, .i32⟩
  | 27 => ⟨S128x1024, .i32⟩
  | 28 => ⟨S_, .i32⟩
  | 29 => ⟨S128x1024, .i32⟩
  | 30 => ⟨S128x1024, .i32⟩
  | 31 => ⟨S_, .i32⟩
  | 32 => ⟨S128x1024, .i32⟩
  | 33 => ⟨S128x1024, .i32⟩
  | 34 => ⟨S128x1024, .i32⟩
  | 35 => ⟨S128x1024, .i32⟩
  | 36 => ⟨S128x1024, .i32⟩
  | 37 => ⟨S128x1024, .i32⟩
  | 38 => ⟨S128x1024, .i32⟩
  | 39 => ⟨S128x1024, .i32⟩
  | 40 => ⟨S_, .i32⟩
  | 41 => ⟨S128x1024, .i32⟩
  | 42 => ⟨S128x1024, .i32⟩
  | 43 => ⟨S128x1024, .i32⟩
  | 44 => ⟨S_, .i32⟩
  | 45 => ⟨S128x1024, .i32⟩
  | 46 => ⟨S128x1024, .i32⟩
  | 47 => ⟨S_, .i32⟩
  | 48 => ⟨S128x1024, .i32⟩
  | 49 => ⟨S128x1024, .i32⟩
  | 50 => ⟨S128x1024, .i32⟩
  | 51 => ⟨S128x1024, .i32⟩
  | 52 => ⟨S128x1024, .i32⟩
  | 53 => ⟨S_, .i32⟩
  | 54 => ⟨S128x1024, .i32⟩
  | 55 => ⟨S128x1024, .i32⟩
  | 56 => ⟨S_, .i32⟩
  | 57 => ⟨S128x1024, .i32⟩
  | 58 => ⟨S128x1024, .i32⟩
  | 59 => ⟨S128x1024, .i32⟩
  | 60 => ⟨S128x1024, .i32⟩
  | 61 => ⟨S128x1024, .i32⟩
  | 62 => ⟨S_, .i32⟩
  | 63 => ⟨S128x1024, .i32⟩
  | 64 => ⟨S128x1024, .i32⟩
  | 65 => ⟨S_, .i32⟩
  | 66 => ⟨S128x1024, .i32⟩
  | 67 => ⟨S128x1024, .i32⟩
  | 68 => ⟨S128x1024, .i32⟩
  | 69 => ⟨S128x1024, .i32⟩
  | 70 => ⟨S128x1024, .i32⟩
  | 71 => ⟨S_, .i32⟩
  | 72 => ⟨S128x1024, .i32⟩
  | 73 => ⟨S128x1024, .i32⟩
  | 74 => ⟨S_, .i32⟩
  | 75 => ⟨S128x1024, .i32⟩
  | 76 => ⟨S128x1024, .i32⟩
  | 77 => ⟨S128x1024, .i32⟩
  | 78 => ⟨S128x1024, .i32⟩
  | 79 => ⟨S128x1024, .i32⟩
  | 80 => ⟨S128x1024, .i32⟩
  | 81 => ⟨S128x1024, .i32⟩
  | 82 => ⟨S128x1024, .i32⟩
  | 83 => ⟨S_, .i32⟩
  | 84 => ⟨S128x1024, .i32⟩
  | 85 => ⟨S128x1024, .i32⟩
  | 86 => ⟨S128x1024, .i32⟩
  | 87 => ⟨S_, .i32⟩
  | 88 => ⟨S128x1024, .i32⟩
  | 89 => ⟨S128x1024, .i32⟩
  | 90 => ⟨S_, .i32⟩
  | 91 => ⟨S128x1024, .i32⟩
  | 92 => ⟨S128x1024, .i32⟩
  | 93 => ⟨S128x1024, .i32⟩
  | 94 => ⟨S128x1024, .i32⟩
  | 95 => ⟨S128x1024, .i32⟩
  | 96 => ⟨S_, .i32⟩
  | 97 => ⟨S128x1024, .i32⟩
  | 98 => ⟨S128x1024, .i32⟩
  | 99 => ⟨S_, .i32⟩
  | 100 => ⟨S128x1024, .i32⟩
  | 101 => ⟨S128x1024, .i32⟩
  | 102 => ⟨S128x1024, .i32⟩
  | 103 => ⟨S128x1024, .i32⟩
  | 104 => ⟨S128x1024, .i32⟩
  | 105 => ⟨S_, .i32⟩
  | 106 => ⟨S128x1024, .i32⟩
  | 107 => ⟨S128x1024, .i32⟩
  | 108 => ⟨S_, .i32⟩
  | 109 => ⟨S128x1024, .i32⟩
  | 110 => ⟨S128x1024, .i32⟩
  | 111 => ⟨S128x1024, .i32⟩
  | 112 => ⟨S128x1024, .i32⟩
  | 113 => ⟨S128x1024, .i32⟩
  | 114 => ⟨S_, .i32⟩
  | 115 => ⟨S128x1024, .i32⟩
  | 116 => ⟨S128x1024, .i32⟩
  | 117 => ⟨S_, .i32⟩
  | 118 => ⟨S128x1024, .i32⟩
  | 119 => ⟨S128x1024, .i32⟩
  | 120 => ⟨S128x1024, .i32⟩
  | 121 => ⟨S128x1024, .i32⟩
  | 122 => ⟨S128x1024, .i32⟩
  | 123 => ⟨S128x1024, .i32⟩
  | 124 => ⟨S128x1024, .i32⟩
  | 125 => ⟨S128x1024, .i32⟩
  | 126 => ⟨S_, .i32⟩
  | 127 => ⟨S128x1024, .i32⟩
  | _ => ⟨S128x1024x768, .f32⟩

abbrev hbmTy0_2 (i : Nat) : BufTy := match i % 128 with
  | 0 => ⟨S128x1024, .i32⟩
  | 1 => ⟨S128x1024, .i32⟩
  | 2 => ⟨S_, .i32⟩
  | 3 => ⟨S128x1024, .i32⟩
  | 4 => ⟨S128x1024, .i32⟩
  | 5 => ⟨S_, .i32⟩
  | 6 => ⟨S128x1024, .i32⟩
  | 7 => ⟨S128x1024, .i32⟩
  | 8 => ⟨S128x1024, .f32⟩
  | 9 => ⟨S_, .f32⟩
  | 10 => ⟨S128x1024, .f32⟩
  | 11 => ⟨S128x1024, .f32⟩
  | 12 => ⟨S1x1, .f32⟩
  | 13 => ⟨S128x1024, .f32⟩
  | 14 => ⟨S128x1024, .f32⟩
  | 15 => ⟨S128x1024, .f32⟩
  | 16 => ⟨S128x1024, .f32⟩
  | 17 => ⟨S128x1024, .f32⟩
  | 18 => ⟨S128x1024, .f32⟩
  | 19 => ⟨S128x1024, .i32⟩
  | 20 => ⟨S128x1024, .f32⟩
  | 21 => ⟨S128x1024, .i32⟩
  | 22 => ⟨S_, .i32⟩
  | 23 => ⟨S128x1024, .i32⟩
  | 24 => ⟨S128x1024, .i1⟩
  | _ => ⟨S128x1024x768, .f32⟩

abbrev hbmTy (i : Nat) : BufTy := match i / 128 with
  | 0 => hbmTy0_0 i
  | 1 => hbmTy0_1 i
  | 2 => hbmTy0_2 i
  | _ => ⟨S128x1024x768, .f32⟩

abbrev bufTy : (tb : Table) → Fin (tcTables nBuf tb) → BufTy
  | .hbm, ⟨i, _⟩ => hbmTy i
  | _, _ => ⟨S128x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_c : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v19_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v19_1 : Ref sig .tc := ⟨.hbm, 256, rfl⟩
abbrev main_call0_v20 : Ref sig .tc := ⟨.hbm, 257, rfl⟩
abbrev main_call0_c_2 : Ref sig .tc := ⟨.hbm, 258, rfl⟩
abbrev main_call0_v21 : Ref sig .tc := ⟨.hbm, 259, rfl⟩
abbrev main_call0_v22 : Ref sig .tc := ⟨.hbm, 260, rfl⟩
abbrev main_call0_c_3 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_cst : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_v30 : Ref sig .tc := ⟨.hbm, 270, rfl⟩
abbrev main_call0_v31 : Ref sig .tc := ⟨.hbm, 271, rfl⟩
abbrev main_call0_v32 : Ref sig .tc := ⟨.hbm, 272, rfl⟩
abbrev main_call0_v33 : Ref sig .tc := ⟨.hbm, 273, rfl⟩
abbrev main_v7 : Ref sig .tc := ⟨.hbm, 274, rfl⟩
abbrev main_call1_v0 : Ref sig .tc := ⟨.hbm, 275, rfl⟩
abbrev main_call1_v1_0 : Ref sig .tc := ⟨.hbm, 276, rfl⟩
abbrev main_v8 : Ref sig .tc := ⟨.hbm, 277, rfl⟩
abbrev main_c_3 : Ref sig .tc := ⟨.hbm, 278, rfl⟩
abbrev main_v9 : Ref sig .tc := ⟨.hbm, 279, rfl⟩
abbrev main_v10 : Ref sig .tc := ⟨.hbm, 280, rfl⟩

abbrev nD : Nat := 1
abbrev τ : Topo := Topo.v7x

variable {F : FTy → Type} [FloatOps F]
-- ==== Proof.Spec.lean ====
/-
  The random words of the problem, as one function of the element's number: `bits c` is the threefry word at counter
  `c` under key `(0, 1)`. Beside the definition, its natural-number reading and the one fact of arithmetic the
  certificate needs of these words: no two neighbouring tail words agree in their upper 23 bits.
-/
module

public import proofs.«01_k».proof.Defs

@[expose] public section

namespace Cert.Proof.Spec

/-- A 32-bit word turned left by `s`. -/
def rotl (s : ℕ) (x : BitVec 32) : BitVec 32 := (x <<< s) ||| (x >>> (32 - s))

/-- One round on the pair of words. -/
def step (s : ℕ) (p : BitVec 32 × BitVec 32) : BitVec 32 × BitVec 32 := (p.1 + p.2, rotl s p.2 ^^^ (p.1 + p.2))

/-- A key injection. -/
def inj (a b : BitVec 32) (p : BitVec 32 × BitVec 32) : BitVec 32 × BitVec 32 := (p.1 + a, p.2 + b)

/-- Four rounds by the even rotations, four by the odd ones. -/
def even4 (p : BitVec 32 × BitVec 32) : BitVec 32 × BitVec 32 := step 6 (step 26 (step 15 (step 13 p)))
def odd4 (p : BitVec 32 × BitVec 32) : BitVec 32 × BitVec 32 := step 24 (step 16 (step 29 (step 17 p)))

def g1 (c : BitVec 32) : BitVec 32 × BitVec 32 := inj 1#32 466688988#32 (even4 (0#32, c + 1#32))
def g2 (c : BitVec 32) : BitVec 32 × BitVec 32 := inj 466688987#32 2#32 (odd4 (g1 c))
def g3 (c : BitVec 32) : BitVec 32 × BitVec 32 := inj 0#32 4#32 (even4 (g2 c))
def g4 (c : BitVec 32) : BitVec 32 × BitVec 32 := inj 1#32 466688991#32 (odd4 (g3 c))
def g5 (c : BitVec 32) : BitVec 32 × BitVec 32 := inj 466688987#32 5#32 (even4 (g4 c))

/-- The random word at counter `c`. -/
def bits (c : BitVec 32) : BitVec 32 := (g5 c).1 ^^^ (g5 c).2

/-! ## The same on natural numbers -/

def rotlN (s x : ℕ) : ℕ := ((x <<< s) % 4294967296) ||| (x >>> (32 - s))
def stepN (s : ℕ) (p : ℕ × ℕ) : ℕ × ℕ := ((p.1 + p.2) % 4294967296, rotlN s p.2 ^^^ ((p.1 + p.2) % 4294967296))
def injN (a b : ℕ) (p : ℕ × ℕ) : ℕ × ℕ := ((p.1 + a) % 4294967296, (p.2 + b) % 4294967296)
def even4N (p : ℕ × ℕ) : ℕ × ℕ := stepN 6 (stepN 26 (stepN 15 (stepN 13 p)))
def odd4N (p : ℕ × ℕ) : ℕ × ℕ := stepN 24 (stepN 16 (stepN 29 (stepN 17 p)))
def g5N (c : ℕ) : ℕ × ℕ :=
  injN 466688987 5 (even4N (injN 1 466688991 (odd4N (injN 0 4 (even4N (injN 466688987 2 (odd4N
    (injN 1 466688988 (even4N (0, (c + 1) % 4294967296))))))))))
def topN (c : ℕ) : ℕ := ((g5N c).1 ^^^ (g5N c).2) >>> 9

/-- No pair with first counter `c`, `c + 2`, … (`n` of them) agrees in the upper bits. -/
def noTieN : ℕ → ℕ → Bool
  | 0, _ => true
  | n + 1, c => !(Nat.beq (topN c) (topN (c + 1))) && noTieN n (c + 2)

/-- `noTieN` on the tails of the rows `b`, `b + 1`, … (`n` of them). -/
def rowsN : ℕ → ℕ → Bool
  | 0, _ => true
  | n + 1, b => noTieN 128 (1024 * b + 768) && rowsN n (b + 1)

theorem rowsN_true : rowsN 128 0 = true := by decide +kernel

theorem noTieN_spec : ∀ (n c : ℕ), noTieN n c = true → ∀ k < n, topN (c + 2 * k) ≠ topN (c + 2 * k + 1)
  | 0, _, _, _, hk => absurd hk (Nat.not_lt_zero _)
  | n + 1, c, h, k, hk => by
    simp only [noTieN, Bool.and_eq_true, Bool.not_eq_true'] at h
    match k with
    | 0 =>
      intro e
      simp only [Nat.mul_zero, Nat.add_zero] at e
      rw [← e, Nat.beq_refl] at h
      exact absurd h.1 (by decide)
    | k + 1 =>
      have := noTieN_spec n (c + 2) h.2 k (by omega)
      rwa [show c + 2 * (k + 1) = c + 2 + 2 * k by ring]

theorem rowsN_spec : ∀ (n b : ℕ), rowsN n b = true → ∀ k < n, noTieN 128 (1024 * (b + k) + 768) = true
  | 0, _, _, _, hk => absurd hk (Nat.not_lt_zero _)
  | n + 1, b, h, k, hk => by
    simp only [rowsN, Bool.and_eq_true] at h
    match k with
    | 0 => exact h.1
    | k + 1 =>
      have := rowsN_spec n (b + 1) h.2 k (by omega)
      rwa [show b + (k + 1) = b + 1 + k by ring]

/-! ## The two readings agree -/

/-- The pair's words as natural numbers. -/
def num (p : BitVec 32 × BitVec 32) : ℕ × ℕ := (p.1.toNat, p.2.toNat)

theorem rotl_toNat (s : ℕ) (x : BitVec 32) : (rotl s x).toNat = rotlN s x.toNat := by
  simp [rotl, rotlN, BitVec.toNat_or, BitVec.toNat_shiftLeft, BitVec.toNat_ushiftRight]

theorem num_step (s : ℕ) (p : BitVec 32 × BitVec 32) : num (step s p) = stepN s (num p) := by
  simp [num, step, stepN, rotl_toNat, BitVec.toNat_xor, BitVec.toNat_add]

theorem num_inj (a b : BitVec 32) (p : BitVec 32 × BitVec 32) : num (inj a b p) = injN a.toNat b.toNat (num p) := by
  simp [num, inj, injN, BitVec.toNat_add]

theorem num_even4 (p : BitVec 32 × BitVec 32) : num (even4 p) = even4N (num p) := by
  simp only [even4, even4N, num_step]
theorem num_odd4 (p : BitVec 32 × BitVec 32) : num (odd4 p) = odd4N (num p) := by
  simp only [odd4, odd4N, num_step]

theorem num_g5 (c : BitVec 32) : num (g5 c) = g5N c.toNat := by
  simp only [g5, g4, g3, g2, g1, g5N, num_inj, num_even4, num_odd4]
  simp [num, BitVec.toNat_add]

theorem top_toNat (c : BitVec 32) : (bits c >>> 9).toNat = topN c.toNat := by
  have h := num_g5 c
  simp only [num, Prod.ext_iff] at h
  simp only [topN, bits, BitVec.toNat_ushiftRight, BitVec.toNat_xor]
  rw [h.1, h.2]

/-- The counter of row `b`, column `j`. -/
def cnt (b j : ℕ) : BitVec 32 := BitVec.ofNat 32 (1024 * b + j)

/-- Two neighbouring tail words (columns `2 k`, `2 k + 1` from 768 on) differ in their upper 23 bits. -/
theorem top_ne {b k : ℕ} (hb : b < 128) (hk : k < 128) :
    bits (cnt b (768 + 2 * k)) >>> 9 ≠ bits (cnt b (768 + 2 * k + 1)) >>> 9 := by
  intro e
  have e' := congrArg BitVec.toNat e
  rw [top_toNat, top_toNat] at e'
  have h := noTieN_spec 128 _ (rowsN_spec 128 0 rowsN_true b hb) k hk
  apply h
  have h1 : (cnt b (768 + 2 * k)).toNat = 1024 * (0 + b) + 768 + 2 * k := by
    simp only [cnt, BitVec.toNat_ofNat]; omega
  have h2 : (cnt b (768 + 2 * k + 1)).toNat = 1024 * (0 + b) + 768 + 2 * k + 1 := by
    simp only [cnt, BitVec.toNat_ofNat]; omega
  rw [h1, h2] at e'
  exact e'

end Cert.Proof.Spec

end
-- ==== Proof.Base.lean ====
/-
  The setting every module about the kernel shares: the program as the launch theorem sees it, the algebra its run is
  proved in (the handshakes' rounds, the staging cells' rounds, the local copies' counters), the arrays' locations, and
  the two functions the run computes: the table of ranks the TensorCore call leaves and the array the SparseCore call
  leaves, both as functions of one rank function.
-/
module

public import proofs.«01_k».proof.Defs
public import proofs.«01_k».proof.Proof.Spec
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ValueLayout
public import Idealize.ShloMosaic.Lib.Writes
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Scatter

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

/-- The values a run is over: exact arithmetic. -/
abbrev E : EltTy → Type := Elt Ideal

abbrev ΛP : Labels := Pipeline.Sig Λ₀ (Fin 1) fun p => (pcfgs (F := Ideal) p).Adm
abbrev K : SparseCore.Cfg τ sig ΛP 1 := sc (F := Ideal)
abbrev D : Defs nD τ sig E ΛP := Pipeline.defs pcfgs defs₀
abbrev 𝒱₀ : Variants := Variants.none
abbrev 𝒱 : Variants := 𝒱₀.lift
abbrev v₀ : 𝒱.V := Sum.inl none

theorem nSub_zero : K.nSub 0 = 16 := rfl
theorem nCore_zero : K.nCore 0 = 2 := rfl

theorem facts : K.Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The algebra: handshakes, staging cells, counters -/

abbrev UH : Type := URounds (GSem nD τ sig) ℕ
abbrev UP : Type := URounds (GSem nD τ sig) Unit
abbrev UU : Type := UH × (UP × Counters)

abbrev 𝕄 : Type := MT nD τ sig (HIx 1) E ℕ UU ℕ

abbrev EH : Emb UH (MT nD τ sig (HIx 1) E ℕ UU ℕ) := embL
abbrev EP : Emb UP (MT nD τ sig (HIx 1) E ℕ UU ℕ) := (Emb.inl : Emb UP (UP × Counters)).trans embR

/-! ## The arrays -/

abbrev xLoc (d : Dev nD) : Loc nD τ sig := (SparseCore.T d).loc main_arg0
abbrev rLoc (d : Dev nD) : Loc nD τ sig := (SparseCore.T d).loc main_v0
abbrev oLoc (d : Dev nD) : Loc nD τ sig := (SparseCore.T d).loc main_v1

variable (rk : ℕ → ℕ → ℕ)

/-- The table of ranks: entry `(g, t, b)` is the rank of tail `t` of row `8 g + b`. -/
def tbl (y : S16x256x8.Idx) : BitVec 32 := BitVec.ofNat 32 (rk (8 * (y 0).val + (y 2).val) (y 1).val)

/-- A row with the places the ranks `T` name among its first `n` cleared. -/
def cutAt (T : ℕ → ℕ) (n k : ℕ) : BitVec 32 := if ∃ t < n, T t = k then 0#32 else 1#32

/-- The array the scatter leaves. -/
def out (y : S128x1024.Idx) : BitVec 32 := cutAt (rk (y 0).val) 256 (y 1).val

end Cert.Proof.Scatter

end
-- ==== Proof.RankVal.lean ====
/-
  What the TensorCore kernel's columns hold: the product of a row's zero-one comparisons with a column of ones is the
  number of keys below a tail's key, and eight such columns, made integers and laid side by side, are a block of ranks.
-/
module

public import proofs.«01_k».proof.Proof.Base
public import Idealize.ShloMosaic.Lib.IdealHost
public import Idealize.ShloMosaic.Lib.MatmulPlain
public import Idealize.ShloMosaic.Lib.Pipeline.Value
public import Idealize.ShloMosaic.Lib.Pipeline.ValueKit.Tiles

@[expose] public section

noncomputable section

namespace Cert.Proof.Ranks

open Cert.KernelIdeal Cert.KernelIdeal.Gen
open Idealize.ShloMosaic Idealize.ShloMosaic.ValueIdx
open scoped BigOperators

/-- How many of row `b`'s keys are below the key of tail `t`. -/
def count (key : ℕ → ℕ → BitVec 32) (b t : ℕ) : ℕ :=
  ((Finset.univ : Finset (Fin 1024)).filter fun j => (key b j.val).slt (key b (768 + t)) = true).card

theorem count_le (key : ℕ → ℕ → BitVec 32) (b t : ℕ) : count key b t ≤ 1024 :=
  (Finset.card_filter_le _ _).trans (by simp)

/-- A tail's own key is not below itself, so a rank names a column. -/
theorem count_lt (key : ℕ → ℕ → BitVec 32) (b : ℕ) {t : ℕ} (ht : t < 256) : count key b t < 1024 := by
  have h : (⟨768 + t, by omega⟩ : Fin 1024) ∉ (Finset.univ : Finset (Fin 1024)).filter fun j => (key b j.val).slt (key b (768 + t)) = true := by
    simp [BitVec.slt]
  have := Finset.card_lt_univ_of_notMem h
  rwa [Fintype.card_fin] at this

section Column

variable {key : ℕ → ℕ → BitVec 32} {v188 : IVec S128x1024 32} {v190 : IVec S256x128 32} {v191 : FVec Ideal S1024x1 .f32}

theorem indicator (p : Bool) :
    (FloatOps.sitofp (F := Ideal) .f32 ((BitVec.ofBool p).setWidth 32) : EReal) * 1 = ((if p = true then 1 else 0 : ℕ) : EReal) := by
  rw [mul_one]
  show (((BitVec.setWidth 32 (BitVec.ofBool p)).toInt : ℝ) : EReal) = _
  cases p
  · rw [show (BitVec.setWidth 32 (BitVec.ofBool false)).toInt = 0 by decide]; simp
  · rw [show (BitVec.setWidth 32 (BitVec.ofBool true)).toInt = 1 by decide]; simp

theorem col_val (hk : ∀ y, v188 y = key (y 0).val (y 1).val) (ht : ∀ y, v190 y = key (y 1).val (768 + (y 0).val)) (ho : ∀ y, v191 y = (1 : EReal))
    (b : ℕ) (hs : S128x1024.Slices ![b, 0] S1x1024) (hs' : S256x128.Slices ![0, b] S256x1) (hb : S1x1024.Broadcasts S256x1024) (hb' : S256x1.Broadcasts S256x1024)
    (hl : 1 < 32) (y : S256x1.Idx) :
    matmul (F := Ideal) dot_S256x1024_S1024x1_S256x1_1_0_0_1_n_n none
        (sitofp .f32 (extui 32 (cmpi .slt (broadcastTo S256x1024 (extractStridedSlice S1x1024 ![b, 0] v188 hs) hb)
          (broadcastTo S256x1024 (extractStridedSlice S256x1 ![0, b] v190 hs') hb')) hl)) v191 (constant S256x1 .f32 0x00000000#32) y
      = ((count key b (y 0).val : ℕ) : EReal) := by
  obtain ⟨t, c, rfl⟩ : ∃ (t : Fin 256) (c : Fin 1), y = ix2 t c := ⟨y 0, y 1, eq_ix2 y⟩
  refine (Ideal.matmul_plain_apply (M := 256) (K := 1024) (N := 1) none _ v191 _ t c).trans ?_
  have hb1 : b < 128 := by have := hs.2 (0 : Fin 2); have h : b + 1 ≤ 128 := this; omega
  have hacc : (constant (F := Ideal) S256x1 .f32 0x00000000#32 : FVec Ideal S256x1 .f32) (ix2 t c) = (0 : EReal) := by
    exact Ideal.ofBits_zero_f32
  have hterm : ∀ j : Fin 1024, (sitofp (F := Ideal) .f32 (extui 32 (cmpi .slt (broadcastTo S256x1024 (extractStridedSlice S1x1024 ![b, 0] v188 hs) hb)
          (broadcastTo S256x1024 (extractStridedSlice S256x1 ![0, b] v190 hs') hb')) hl) : FVec Ideal S256x1024 .f32) (ix2 t j) * v191 (ix2 j c)
        = ((if (key b j.val).slt (key b (768 + t.val)) = true then 1 else 0 : ℕ) : EReal) := by
    intro j
    rw [ho, ← indicator]
    have e1 : broadcastTo S256x1024 (extractStridedSlice S1x1024 ![b, 0] v188 hs) hb (ix2 t j) = key b j.val := by
      refine (broadcastTo_apply _ hb (ix2 t j) (ix2 (0 : Fin 1) j) fun a => by fin_cases a <;> rfl).trans ?_
      refine (extractStridedSlice_apply _ v188 hs (ix2 (0 : Fin 1) j) (ix2 ⟨b, hb1⟩ j) fun a => by fin_cases a <;> simp).trans ?_
      exact hk _
    have e2 : broadcastTo S256x1024 (extractStridedSlice S256x1 ![0, b] v190 hs') hb' (ix2 t j) = key b (768 + t.val) := by
      refine (broadcastTo_apply _ hb' (ix2 t j) (ix2 t (0 : Fin 1)) fun a => by fin_cases a <;> rfl).trans ?_
      refine (extractStridedSlice_apply _ v190 hs' (ix2 t (0 : Fin 1)) (ix2 t ⟨b, hb1⟩) fun a => by fin_cases a <;> simp).trans ?_
      exact ht _
    show FloatOps.sitofp (F := Ideal) .f32 (BitVec.setWidth 32 (BitVec.ofBool (BitVec.slt (broadcastTo S256x1024 (extractStridedSlice S1x1024 ![b, 0] v188 hs) hb (ix2 t j))
      (broadcastTo S256x1024 (extractStridedSlice S256x1 ![0, b] v190 hs') hb' (ix2 t j))))) * (1 : EReal) = _
    rw [e1, e2]
  rw [hacc, zero_add, Finset.sum_congr rfl fun j _ => hterm j, ← Nat.cast_sum]
  refine congrArg (Nat.cast (R := EReal)) ?_
  rw [Finset.sum_boole, Nat.cast_id]
  rfl

theorem toI_val {n : ℕ} (h : n ≤ 1024) : (FloatOps.fptosi (F := Ideal) (φ := .f32) 32 ((n : ℕ) : EReal)) = BitVec.ofNat 32 n := by
  show Ideal.fptosi 32 ((n : ℕ) : EReal) = _
  have e : ((n : ℕ) : EReal) = (((n : ℕ) : ℝ) : EReal) := by simp
  rw [e]
  show BitVec.ofInt 32 (max _ (min _ (if 0 ≤ ((n : ℕ) : ℝ) then ⌊((n : ℕ) : ℝ)⌋ else ⌈((n : ℕ) : ℝ)⌉))) = _
  rw [if_pos (Nat.cast_nonneg n), Int.floor_natCast]
  rw [show max (-((2 ^ (32 - 1) : ℕ) : ℤ)) (min (((2 ^ (32 - 1) : ℕ) : ℤ) - 1) (n : ℤ)) = (n : ℤ) by
    rw [show (2 ^ (32 - 1) : ℕ) = 2147483648 by norm_num]; omega]
  exact BitVec.ofInt_natCast 32 n

theorem group_val (g : ℕ) {c0 c1 c2 c3 c4 c5 c6 c7 : FVec Ideal S256x1 .f32}
    (h0 : ∀ y, c0 y = ((count key (8 * g + 0) (y 0).val : ℕ) : EReal)) (h1 : ∀ y, c1 y = ((count key (8 * g + 1) (y 0).val : ℕ) : EReal))
    (h2 : ∀ y, c2 y = ((count key (8 * g + 2) (y 0).val : ℕ) : EReal)) (h3 : ∀ y, c3 y = ((count key (8 * g + 3) (y 0).val : ℕ) : EReal))
    (h4 : ∀ y, c4 y = ((count key (8 * g + 4) (y 0).val : ℕ) : EReal)) (h5 : ∀ y, c5 y = ((count key (8 * g + 5) (y 0).val : ℕ) : EReal))
    (h6 : ∀ y, c6 y = ((count key (8 * g + 6) (y 0).val : ℕ) : EReal)) (h7 : ∀ y, c7 y = ((count key (8 * g + 7) (y 0).val : ℕ) : EReal))
    (hc : _) (hsc : S256x8.ShapeCasts S1x256x8) (y : S1x256x8.Idx) :
    shapeCast S1x256x8 (fptosi 32 (concatenate S256x8 1 [⟨S256x1, c0⟩, ⟨S256x1, c1⟩, ⟨S256x1, c2⟩, ⟨S256x1, c3⟩, ⟨S256x1, c4⟩, ⟨S256x1, c5⟩, ⟨S256x1, c6⟩, ⟨S256x1, c7⟩] hc)) hsc y
      = BitVec.ofNat 32 (count key (8 * g + (y 2).val) (y 1).val) := by
  refine (shapeCast_apply _ hsc y (ix2 (y 1) (y 2)) ?_).trans ?_
  · rw [Shape.rowMajor_val_two, Shape.rowMajor_val_three]
    have : (y 0).val = 0 := by have := (y 0).isLt; have h : (y 0).val < 1 := this; omega
    show (y 1).val * 8 + (y 2).val = ((y 0).val * 256 + (y 1).val) * 8 + (y 2).val
    omega
  · show FloatOps.fptosi (F := Ideal) (φ := .f32) 32 (concatenate S256x8 1 _ hc (ix2 (y 1) (y 2))) = _
    rw [show concatenate S256x8 1 [⟨S256x1, c0⟩, ⟨S256x1, c1⟩, ⟨S256x1, c2⟩, ⟨S256x1, c3⟩, ⟨S256x1, c4⟩, ⟨S256x1, c5⟩, ⟨S256x1, c6⟩, ⟨S256x1, c7⟩] hc (ix2 (y 1) (y 2))
      = ((count key (8 * g + (y 2).val) (y 1).val : ℕ) : EReal) from ?_, toI_val (count_le _ _ _)]
    refine concatenate_unit_eq (1 : Fin 2) _ hc (ix2 (y 1) (y 2)) _ rfl ?_
    have hj {k : ℕ} {c : FVec Ideal S256x1 .f32} (h : ∀ y, c y = ((count key (8 * g + k) (y 0).val : ℕ) : EReal)) :
        PieceAt (1 : Fin 2) (ix2 (y 1) (y 2)) ((count key (8 * g + (y 2).val) (y 1).val : ℕ) : EReal) S256x1 c k := by
      intro hj hr i _ hi
      have e0 : (i 0).val = (y 1).val := hi (0 : Fin 2) (by decide)
      have e1 : (y 2).val = k := hj
      rw [h, e0, e1]
    exact ⟨hj h0, hj h1, hj h2, hj h3, hj h4, hj h5, hj h6, hj h7, trivial⟩

theorem rows_slice {b : ℕ} (h : b < 128) : S128x1024.Slices ![b, 0] S1x1024 :=
  ⟨rfl, fun (a : Fin 2) => by fin_cases a; exacts [(by omega : b + 1 ≤ 128), (by decide : 0 + 1024 ≤ 1024)]⟩

theorem tails_slice {b : ℕ} (h : b < 128) : S256x128.Slices ![0, b] S256x1 :=
  ⟨rfl, fun (a : Fin 2) => by fin_cases a; exacts [(by decide : 0 + 256 ≤ 256), (by omega : b + 1 ≤ 128)]⟩

/-- The column of row `b`. -/
abbrev col (v188 : IVec S128x1024 32) (v190 : IVec S256x128 32) (v191 : FVec Ideal S1024x1 .f32) {b : ℕ} (h : b < 128) : FVec Ideal S256x1 .f32 :=
  matmul (F := Ideal) dot_S256x1024_S1024x1_S256x1_1_0_0_1_n_n none
    (sitofp .f32 (extui 32 (cmpi .slt (broadcastTo S256x1024 (extractStridedSlice S1x1024 ![b, 0] v188 (rows_slice h)) broadcasts_S1x1024_S256x1024)
      (broadcastTo S256x1024 (extractStridedSlice S256x1 ![0, b] v190 (tails_slice h)) broadcasts_S256x1_S256x1024)) natLt_1_32)) v191 (constant S256x1 .f32 0x00000000#32)

/-- The block the kernel stores for group `g` holds that group's ranks. -/
theorem block_val (hk : ∀ y, v188 y = key (y 0).val (y 1).val) (ht : ∀ y, v190 y = key (y 1).val (768 + (y 0).val)) (ho : ∀ y, v191 y = (1 : EReal))
    (g : ℕ) (hg : g < 16) (y : S1x256x8.Idx) :
    shapeCast S1x256x8 (fptosi 32 (concatenate S256x8 1 [⟨S256x1, col v188 v190 v191 (b := 8 * g + 0) (by omega)⟩, ⟨S256x1, col v188 v190 v191 (b := 8 * g + 1) (by omega)⟩,
        ⟨S256x1, col v188 v190 v191 (b := 8 * g + 2) (by omega)⟩, ⟨S256x1, col v188 v190 v191 (b := 8 * g + 3) (by omega)⟩, ⟨S256x1, col v188 v190 v191 (b := 8 * g + 4) (by omega)⟩,
        ⟨S256x1, col v188 v190 v191 (b := 8 * g + 5) (by omega)⟩, ⟨S256x1, col v188 v190 v191 (b := 8 * g + 6) (by omega)⟩, ⟨S256x1, col v188 v190 v191 (b := 8 * g + 7) (by omega)⟩] concatenates_S256x1_S256x1_S256x1_S256x1_S256x1_S256x1_S256x1_S256x1_S256x8_d1))
        shapeCasts_S256x8_S1x256x8 y
      = BitVec.ofNat 32 (count key (8 * g + (y 2).val) (y 1).val) :=
  group_val g (fun y => col_val hk ht ho _ _ _ _ _ _ y) (fun y => col_val hk ht ho _ _ _ _ _ _ y) (fun y => col_val hk ht ho _ _ _ _ _ _ y)
    (fun y => col_val hk ht ho _ _ _ _ _ _ y) (fun y => col_val hk ht ho _ _ _ _ _ _ y) (fun y => col_val hk ht ho _ _ _ _ _ _ y)
    (fun y => col_val hk ht ho _ _ _ _ _ _ y) (fun y => col_val hk ht ho _ _ _ _ _ _ y) _ _ y

/-- The tails the kernel cuts out and turns. -/
theorem tails_val {v2 v176 v178 v179 : IVec S128x1024 32} (hk : ∀ y, k0_pay49 v2 v176 v178 v179 y = key (y 0).val (y 1).val) (y : S256x128.Idx) :
    k0_pay50 v2 v176 v178 v179 y = key (y 1).val (768 + (y 0).val) := by
  obtain ⟨t, b, rfl⟩ : ∃ (t : Fin 256) (b : Fin 128), y = ix2 t b := ⟨y 0, y 1, eq_ix2 y⟩
  show transpose S256x128 [1, 0] (extractStridedSlice S128x256 ![0, 768] (k0_pay49 v2 v176 v178 v179) slices_S128x1024_o0_768_S128x256) transposes_S128x256_p1_0_S256x128 _ = _
  refine (transpose_apply _ _ _ (ix2 t b) (ix2 b t) fun a => by fin_cases a <;> rfl).trans ?_
  refine (extractStridedSlice_apply _ _ _ (ix2 b t) (ix2 b (⟨768 + t.val, by omega⟩ : Fin 1024)) fun a => by fin_cases a <;> simp).trans ?_
  exact hk _

theorem ones_val (y : S1024x1.Idx) : k0_pay51 (F := Ideal) y = (1 : EReal) := Ideal.ofBits_one_f32

end Column

end Cert.Proof.Ranks

end
-- ==== Proof.KeyVal.lean ====
/-
  The keys the TensorCore kernel ranks by: its straight line of word operations computes, at every place, the random
  word of that place's counter, with the low nine bits replaced by half the column's number and the sign bit turned.
-/
module

public import proofs.«01_k».proof.Proof.Base
public import Idealize.ShloMosaic.Lib.Pipeline.Value

@[expose] public section

noncomputable section

namespace Cert.Proof.Ranks

open Cert.KernelIdeal Cert.KernelIdeal.Gen
open Idealize.ShloMosaic
open Cert.Proof.Spec

/-- The key of column `j` of row `b`. -/
def key (b j : ℕ) : BitVec 32 := ((bits (cnt b j) &&& 4294966784#32) ||| (BitVec.ofNat 32 j >>> 1)) ^^^ 2147483648#32

theorem add_two (x a b c : BitVec 32) (h : a + b = c) : x + a + b = x + c := by rw [BitVec.add_assoc, h]

section Words

variable (i : grid0.Coords) (y : S128x1024.Idx)

theorem counter (hi : (i 0).val = 0) : k0_pay2 i y = cnt (y 0).val (y 1).val + 1#32 := by
  have e : k0_pay2 i y = ((BitVec.ofNat 32 (i 0).val * 128#32 + BitVec.ofNat 32 (y 0).val) * 1024#32 + BitVec.ofNat 32 (y 1).val) + 1#32 := by
    show (((BitVec.ofNat 32 (i 0).val * 128#32) + iota .tc S128x1024 32 [0] iota_S128x1024_d0_w32 y) * 1024#32
      + iota .tc S128x1024 32 [1] iota_S128x1024_d1_w32 y) + 1#32 = _
    rw [iota_single_apply, iota_single_apply]
  rw [e, hi]
  refine congrArg (· + 1#32) ?_
  apply BitVec.eq_of_toNat_eq
  have h0 : (y 0).val < 128 := (y 0).isLt
  have h1 : (y 1).val < 1024 := (y 1).isLt
  simp only [cnt, BitVec.toNat_add, BitVec.toNat_mul, BitVec.toNat_ofNat]
  omega

theorem g1_val (hi : (i 0).val = 0) : g1 (cnt (y 0).val (y 1).val) = (k0_pay10 i y, k0_pay13 (k0_pay11 i) k0_pay12 y) := by
  have r1 : step 13 (0#32, k0_pay2 i y) = (k0_pay3 i y, k0_pay4 i y) := rfl
  have r2 : step 15 (k0_pay3 i y, k0_pay4 i y) = (k0_pay5 i y, k0_pay6 i y) := rfl
  have r3 : step 26 (k0_pay5 i y, k0_pay6 i y) = (k0_pay7 i y, k0_pay8 i y) := rfl
  have r4 : step 6 (k0_pay7 i y, k0_pay8 i y) = (k0_pay9 i y, rotl 6 (k0_pay8 i y) ^^^ k0_pay9 i y) := rfl
  rw [g1, even4, ← counter i y hi, r1, r2, r3, r4, inj]
  refine Prod.ext rfl ?_
  exact (add_two _ 466688987#32 1#32 466688988#32 rfl).symm

end Words

section Odd

variable (v40 v42 v43 : IVec S128x1024 32) (y : S128x1024.Idx)

theorem g2_val : inj 466688987#32 2#32 (odd4 (v40 y, k0_pay13 v42 v43 y))
    = (k0_pay20 v40 v42 v43 y + 466688987#32, k0_pay21 v40 v42 v43 y) := by
  have r1 : step 17 (v40 y, k0_pay13 v42 v43 y) = (k0_pay14 v40 v42 v43 y, k0_pay15 v40 v42 v43 y) := rfl
  have r2 : step 29 (k0_pay14 v40 v42 v43 y, k0_pay15 v40 v42 v43 y) = (k0_pay16 v40 v42 v43 y, k0_pay17 v40 v42 v43 y) := rfl
  have r3 : step 16 (k0_pay16 v40 v42 v43 y, k0_pay17 v40 v42 v43 y) = (k0_pay18 v40 v42 v43 y, k0_pay19 v40 v42 v43 y) := rfl
  have r4 : step 24 (k0_pay18 v40 v42 v43 y, k0_pay19 v40 v42 v43 y)
    = (k0_pay20 v40 v42 v43 y, rotl 24 (k0_pay19 v40 v42 v43 y) ^^^ k0_pay20 v40 v42 v43 y) := rfl
  rw [odd4, r1, r2, r3, r4, inj]
  refine Prod.ext rfl ?_
  exact (add_two _ 0#32 2#32 2#32 rfl).symm

theorem g3_head : step 13 (k0_pay20 v40 v42 v43 y + 466688987#32, k0_pay21 v40 v42 v43 y) = (k0_pay22 v40 v42 v43 y, k0_pay23 v40 v42 v43 y) := rfl

theorem g3_shift : step 15 (k0_pay22 v40 v42 v43 y, k0_pay23 v40 v42 v43 y)
    = (k0_pay24 v40 v42 v43 y, k0_pay26 (k0_pay23 v40 v42 v43) (k0_pay24 v40 v42 v43) (k0_pay25 v40 v42 v43) 17#32 y) := rfl

end Odd

section Even

variable (v85 v86 v88 : IVec S128x1024 32) (c : BitVec 32) (y : S128x1024.Idx)

theorem g3_val : inj 0#32 4#32 (step 6 (step 26 (v86 y, k0_pay26 v85 v86 v88 c y)))
    = (k0_pay29 v85 v86 v88 c y + 0#32, k0_pay30 v85 v86 v88 c y) := by
  have r1 : step 26 (v86 y, k0_pay26 v85 v86 v88 c y) = (k0_pay27 v85 v86 v88 c y, k0_pay28 v85 v86 v88 c y) := rfl
  have r2 : step 6 (k0_pay27 v85 v86 v88 c y, k0_pay28 v85 v86 v88 c y)
    = (k0_pay29 v85 v86 v88 c y, rotl 6 (k0_pay28 v85 v86 v88 c y) ^^^ k0_pay29 v85 v86 v88 c y) := rfl
  rw [r1, r2, inj]
  refine Prod.ext rfl ?_
  exact (add_two _ 1#32 3#32 4#32 rfl).symm

theorem g4_head : step 16 (step 29 (step 17 (k0_pay29 v85 v86 v88 c y + 0#32, k0_pay30 v85 v86 v88 c y)))
    = (k0_pay35 v85 v86 v88 c y, k0_pay36 v85 v86 v88 c y) := by
  have r1 : step 17 (k0_pay29 v85 v86 v88 c y + 0#32, k0_pay30 v85 v86 v88 c y) = (k0_pay31 v85 v86 v88 c y, k0_pay32 v85 v86 v88 c y) := rfl
  have r2 : step 29 (k0_pay31 v85 v86 v88 c y, k0_pay32 v85 v86 v88 c y) = (k0_pay33 v85 v86 v88 c y, k0_pay34 v85 v86 v88 c y) := rfl
  have r3 : step 16 (k0_pay33 v85 v86 v88 c y, k0_pay34 v85 v86 v88 c y) = (k0_pay35 v85 v86 v88 c y, k0_pay36 v85 v86 v88 c y) := rfl
  rw [r1, r2, r3]

end Even

section Last

variable (v133 v134 : IVec S128x1024 32) (y : S128x1024.Idx)

theorem g4_val (p : BitVec 32 × BitVec 32) (h1 : v134 y = p.1 + p.2) (h2 : v133 y = p.2) :
    inj 1#32 466688991#32 (step 24 p) = (v134 y + 1#32, k0_pay38 v133 v134 24#32 y) := by
  rw [inj, step, ← h1, ← h2]
  refine Prod.ext rfl ?_
  exact (add_two _ 466688987#32 4#32 466688991#32 rfl).symm

theorem g5_val : inj 466688987#32 5#32 (even4 (v134 y + 1#32, k0_pay38 v133 v134 24#32 y))
    = (k0_pay46 v133 v134 24#32 y, k0_pay47 v133 v134 24#32 y + 5#32) := by
  have r1 : step 13 (v134 y + 1#32, k0_pay38 v133 v134 24#32 y) = (k0_pay39 v133 v134 24#32 y, k0_pay40 v133 v134 24#32 y) := rfl
  have r2 : step 15 (k0_pay39 v133 v134 24#32 y, k0_pay40 v133 v134 24#32 y) = (k0_pay41 v133 v134 24#32 y, k0_pay42 v133 v134 24#32 y) := rfl
  have r3 : step 26 (k0_pay41 v133 v134 24#32 y, k0_pay42 v133 v134 24#32 y) = (k0_pay43 v133 v134 24#32 y, k0_pay44 v133 v134 24#32 y) := rfl
  have r4 : step 6 (k0_pay43 v133 v134 24#32 y, k0_pay44 v133 v134 24#32 y)
    = (k0_pay45 v133 v134 24#32 y, rotl 6 (k0_pay44 v133 v134 24#32 y) ^^^ k0_pay45 v133 v134 24#32 y) := rfl
  rw [even4, r1, r2, r3, r4, inj]
  refine Prod.ext rfl ?_
  refine congrArg (· + 5#32) ?_
  exact (BitVec.add_zero _).symm

end Last

/-- The kernel's keys. -/
theorem key_val (i : grid0.Coords) (hi : (i 0).val = 0) (y : S128x1024.Idx) {v40 v42 v43 v85 v86 v88 v133 v134 : IVec S128x1024 32}
    (e40 : v40 = k0_pay10 i) (e42 : v42 = k0_pay11 i) (e43 : v43 = k0_pay12)
    (e85 : v85 = k0_pay23 v40 v42 v43) (e86 : v86 = k0_pay24 v40 v42 v43) (e88 : v88 = k0_pay25 v40 v42 v43)
    (e133 : v133 = k0_pay36 v85 v86 v88 17#32) (e134 : v134 = k0_pay37 v85 v86 v88 17#32) :
    k0_pay49 (iota .tc S128x1024 32 [1] iota_S128x1024_d1_w32) (k0_pay46 v133 v134 24#32) (k0_pay47 v133 v134 24#32) k0_pay48 y = key (y 0).val (y 1).val := by
  have h1 : g1 (cnt (y 0).val (y 1).val) = (v40 y, k0_pay13 v42 v43 y) := by rw [e40, e42, e43]; exact g1_val i y hi
  have h3 : g3 (cnt (y 0).val (y 1).val) = (k0_pay29 v85 v86 v88 17#32 y + 0#32, k0_pay30 v85 v86 v88 17#32 y) := by
    rw [g3, g2, h1, g2_val, even4, g3_head, g3_shift, ← e85, ← e86, ← e88, g3_val]
  have h4 : g4 (cnt (y 0).val (y 1).val) = (v134 y + 1#32, k0_pay38 v133 v134 24#32 y) := by
    rw [g4, h3, odd4, g4_head]
    exact g4_val v133 v134 y _ (by rw [e134]; rfl) (by rw [e133])
  have h5 : bits (cnt (y 0).val (y 1).val) = k0_pay46 v133 v134 24#32 y ^^^ (k0_pay47 v133 v134 24#32 y + 5#32) := by
    rw [bits, g5, h4, g5_val]
  rw [key, h5, ← iota_single_apply .tc S128x1024 32 1 iota_S128x1024_d1_w32 y]
  rfl

end Cert.Proof.Ranks

end
-- ==== Proof.TcRun.lean ====
/-
  The TensorCore kernel run: sixteen groups, each loaded and stored once; after group `g` the first `g + 1` blocks of
  the table hold ranks, whatever the table held before.
-/
module

public import proofs.«01_k».proof.Proof.RankVal
public import proofs.«01_k».proof.Proof.KeyVal

@[expose] public section

noncomputable section

namespace Cert.Proof.Ranks

open Cert.KernelIdeal Cert.KernelIdeal.Gen
open Cert.Proof.Scatter (E UU 𝒱₀)
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

local notation "𝕄" => MT nD τ sig (HIx 1) (Elt Ideal) ℕ UU ℕ
local notation "gV" => (Memref.whole Cert.KernelIdeal.cc0_stg0_0 : Memref Cert.KernelIdeal.sig Kind.tc Space.vmem Cert.KernelIdeal.S16x256x8 EltTy.i32)
local notation "TP" => TpuEff nD τ sig (Elt Ideal) Λ₀ Proc.tc

/-- The table with its first `g` blocks done. -/
def done (g : ℕ) (f : S16x256x8.Idx → BitVec 32) : Prop :=
  ∀ y, (y 0).val < g → f y = BitVec.ofNat 32 (count key (8 * (y 0).val + (y 2).val) (y 1).val)

variable (d : Dev nD)

/-- The staging buffer with its first `g` blocks done. -/
abbrev holds (g : ℕ) : sProp 𝕄 :=
  iprop(∃ f : S16x256x8.Idx → BitVec 32, ⌜done g f⌝ ∗ (SparseCore.T d).loc cc0_stg0_0 ↦{fullShare} f)

variable {α : Type} {Q : α → sProp 𝕄}

set_option maxHeartbeats 4000000 in
theorem done_store {g : ℕ} {f : S16x256x8.Idx → BitVec 32} (hf : done g f) (inb : ∀ a, (![g, 0, 0] : Fin 3 → ℕ) a + S1x256x8.size a ≤ S16x256x8.size a)
    {pay : S1x256x8.Idx → BitVec 32} (hp : ∀ y, pay y = BitVec.ofNat 32 (count key (8 * g + (y 2).val) (y 1).val)) :
    done (g + 1) (((gV).access (Rect.unit (s := S16x256x8) ![g, 0, 0] S1x256x8.size inb)).write (Elt Ideal) f pay Finset.univ) := by
  intro y hy
  by_cases h : (y 0).val = g
  · have e := View.read_writes_cons_hit_of_coords (Val := Elt Ideal) (gV).view f (Rect.unit (s := S16x256x8) ![g, 0, 0] S1x256x8.size inb) pay []
      (fun (a : Fin 3) => match a with | 0 => (⟨0, by decide⟩ : Fin (S1x256x8.size 0)) | 1 => (⟨(y 1).val, (y 1).isLt⟩ : Fin (S1x256x8.size 1)) | 2 => (⟨(y 2).val, (y 2).isLt⟩ : Fin (S1x256x8.size 2))) y
      (fun (a : Fin 3) => match a with
        | 0 => (by omega : (y 0).val = g + 1 * 0)
        | 1 => (by omega : (y 1).val = 0 + 1 * (y 1).val)
        | 2 => (by omega : (y 2).val = 0 + 1 * (y 2).val))
    refine e.trans ((hp _).trans ?_)
    show BitVec.ofNat 32 (count key (8 * g + (y 2).val) (y 1).val) = _
    rw [h]
  · have hlt : (y 0).val < g := by omega
    have ne : y ∉ (Rect.unit (s := S16x256x8) ![g, 0, 0] S1x256x8.size inb).set := by
      refine Rect.not_mem_set_of_axis _ y (0 : Fin 3) g 1 ?_ ?_ ?_ (Or.inl hlt)
      · rfl
      · rfl
      · rfl
    have e := View.read_writes_cons_miss (Val := Elt Ideal) (gV).view f ⟨Rect.unit (s := S16x256x8) ![g, 0, 0] S1x256x8.size inb, pay⟩ [] y ne
    have e0 : (gV).view.read (Elt Ideal) ((gV).view.writes (Elt Ideal) f []) = f := rfl
    refine e.trans ?_
    refine (congrFun e0 y).trans ?_
    exact hf y hlt

theorem step_group {g : ℕ} (inb : ∀ a, (![g, 0, 0] : Fin 3 → ℕ) a + S1x256x8.size a ≤ S16x256x8.size a)
    (hl : (gV).view.LoadsAt (Rect.unit (s := S16x256x8) ![g, 0, 0] S1x256x8.size inb).toLoadRect)
    (hs : ((gV).access (Rect.unit (s := S16x256x8) ![g, 0, 0] S1x256x8.size inb)).Stores Finset.univ) (hm : _) (pay : S1x256x8.Idx → BitVec 32) (k : PUnit → Prog TP α)
    (hp : ∀ y, pay y = BitVec.ofNat 32 (count key (8 * g + (y 2).val) (y 1).val))
    (h : holds d (g + 1) ⊢ wp frame (wpE (defs₀ (F := Ideal)) 𝒱₀ (SparseCore.T d) none) Set.univ (k ⟨⟩) Q) :
    holds d g ⊢ wp frame (wpE (defs₀ (F := Ideal)) 𝒱₀ (SparseCore.T d) none) Set.univ
      ((Prog.lift (TpuEff.load (gV) (Rect.unit (s := S16x256x8) ![g, 0, 0] S1x256x8.size inb).toLoadRect hl) : Prog TP _) >>= fun _ =>
        Prog.lift (TpuEff.store (gV) (Rect.unit (s := S16x256x8) ![g, 0, 0] S1x256x8.size inb) pay Finset.univ hs hm) >>= k) Q := by
  iintro ⟨%f, %hf, H⟩
  iapply (wp_load_rect 𝒱₀ (SparseCore.T d) none Set.univ (m := gV) (r := Rect.unit (s := S16x256x8) ![g, 0, 0] S1x256x8.size inb) (S := Finset.univ) (Finset.subset_univ _)) $$ H
  iintro H
  iapply (wp_store 𝒱₀ (SparseCore.T d) none Set.univ (m := gV) (r := Rect.unit (s := S16x256x8) ![g, 0, 0] S1x256x8.size inb) (S := Finset.univ) (Finset.subset_univ _)) $$ H
  iintro H
  iapply h
  iexists _; isplitr
  swap; · iexact H
  ipureintro
  exact done_store hf inb hp

attribute [local irreducible] Prog.bind Prog.lift k0_part1 k0_part2 k0_part3 k0_part4 k0_part5 k0_part6 k0_part7 k0_part8 k0_part9 k0_part10 k0_part11
  k0_part12 k0_part13 k0_part14 k0_part15 k0_part16 k0_part17 k0_part18 k0_part19 k0_part20 k0_part21 k0_part22 k0_part23 k0_part24 k0_part25 k0_part26

set_option maxRecDepth 8192 in
theorem run (i : grid0.Coords) (hi : (i 0).val = 0) :
    holds d 0 ⊢ wp frame (wpE (defs₀ (F := Ideal)) 𝒱₀ (SparseCore.T d) none) Set.univ
      (cc0__ranks_kernel (F := Ideal) i gV (Memref.isWhole_whole _)) fun _ => holds d 16 := by
  rw [cc0__ranks_kernel_eq_skeleton]
  unfold cc0__ranks_kernel_skel
  rw [k0_part26_eq_skeleton]
  unfold k0_part26_skel
  simp only [bind_assoc, pure_bind]
  rw [k0_part1_eq_skeleton]; unfold k0_part1_skel
  simp only [pure_bind]
  rw [k0_part2_eq_skeleton]; unfold k0_part2_skel
  simp only [pure_bind]
  rw [k0_part3_eq_skeleton]; unfold k0_part3_skel
  simp only [pure_bind]
  rw [k0_part4_eq_skeleton]; unfold k0_part4_skel
  simp only [pure_bind]
  have hk := fun y => key_val i hi y rfl rfl rfl rfl rfl rfl rfl rfl
  generalize k0_pay46 _ _ _ = v176 at hk ⊢
  generalize k0_pay47 _ _ _ = v178 at hk ⊢
  generalize k0_pay48 = v179 at hk ⊢
  generalize iota .tc S128x1024 32 [1] iota_S128x1024_d1_w32 = v2 at hk ⊢
  have ht := tails_val (key := key) hk
  rw [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  simp only [k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, bind_assoc, pure_bind]
  refine step_group d _ _ _ _ _ _ (block_val hk ht ones_val 0 (by decide)) ?_
  refine step_group d _ _ _ _ _ _ (block_val hk ht ones_val 1 (by decide)) ?_
  refine step_group d _ _ _ _ _ _ (block_val hk ht ones_val 2 (by decide)) ?_
  refine step_group d _ _ _ _ _ _ (block_val hk ht ones_val 3 (by decide)) ?_
  refine step_group d _ _ _ _ _ _ (block_val hk ht ones_val 4 (by decide)) ?_
  refine step_group d _ _ _ _ _ _ (block_val hk ht ones_val 5 (by decide)) ?_
  refine step_group d _ _ _ _ _ _ (block_val hk ht ones_val 6 (by decide)) ?_
  refine step_group d _ _ _ _ _ _ (block_val hk ht ones_val 7 (by decide)) ?_
  refine step_group d _ _ _ _ _ _ (block_val hk ht ones_val 8 (by decide)) ?_
  refine step_group d _ _ _ _ _ _ (block_val hk ht ones_val 9 (by decide)) ?_
  refine step_group d _ _ _ _ _ _ (block_val hk ht ones_val 10 (by decide)) ?_
  refine step_group d _ _ _ _ _ _ (block_val hk ht ones_val 11 (by decide)) ?_
  refine step_group d _ _ _ _ _ _ (block_val hk ht ones_val 12 (by decide)) ?_
  refine step_group d _ _ _ _ _ _ (block_val hk ht ones_val 13 (by decide)) ?_
  refine step_group d _ _ _ _ _ _ (block_val hk ht ones_val 14 (by decide)) ?_
  refine step_group d _ _ _ _ _ _ (block_val hk ht ones_val 15 (by decide)) ?_
  rw [wp_pure]
  iintro H; imodintro; iexact H
end Cert.Proof.Ranks

end
-- ==== Proof.TcRegion.lean ====
/-
  The TensorCore call as a region: entered from the table's array at anything and the core owing what it owes before the
  SparseCore call, left with the array at the ranks and the same debt, nothing more recorded than waits at level zero.
-/
module

public import proofs.«01_k».proof.Proof.TcRun
public import Idealize.ShloMosaic.Lib.Pipeline.Regions
public import Idealize.ShloMosaic.Lib.Pipeline.Value

@[expose] public section

noncomputable section

namespace Cert.Proof.Ranks

open Cert.KernelIdeal Cert.KernelIdeal.Gen Cert.Proof.Scatter
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig (HIx 1) (Elt Ideal) ℕ UU ℕ
local notation "gV" => (Memref.whole Cert.KernelIdeal.cc0_stg0_0 : Memref Cert.KernelIdeal.sig Kind.tc Space.vmem Cert.KernelIdeal.S16x256x8 EltTy.i32)

/-- The rank of tail `t` of row `b`. -/
def rank (b t : ℕ) : ℕ := if t < 256 then count key b t else 0

theorem rank_lt (b t : ℕ) : rank b t < 1024 := by
  unfold rank
  by_cases h : t < 256
  · rw [if_pos h]; exact count_lt key b h
  · rw [if_neg h]; decide

/-- The table done in full is the table of ranks. -/
theorem done_all {f : S16x256x8.Idx → BitVec 32} (h : done 16 f) : f = tbl rank := funext fun y => by
  have h1 : (y 1).val < 256 := (y 1).isLt
  rw [h y (y 0).isLt, tbl, rank, if_pos h1]

variable (f₀ : (d : Dev nD) → Buf (Elt Ideal) (rLoc d))

/-- The region's proof data: the array at `f₀`, then at the ranks; the debts of the handshakes with the SparseCores. -/
def dat (d : Dev nD) : Dat τ (Elt Ideal) (HIx 1) ℕ UU ℕ cfg0 d where
  A w := match w with | ⟨0, _⟩ => f₀ d
  after w _ := match w with | ⟨0, _⟩ => tbl rank
  Φ _ := Pipeline.scopedRest (Ix := HIx 1) (Name := ℕ) (U := UU) (Lvl := ℕ) (Val := Elt Ideal) spec0 d
  q _ := fullShare
  owed _ := K.Otc d 0
  recorded _ := {p | K.lev (SparseCore.T d, p.1) p.2 ≤ 0}

def pdats (adm : (p : Fin 1) → (pcfgs (F := Ideal) p).Adm) : (p : Fin 1) → (d : Dev nD) → Dat τ (Elt Ideal) (HIx 1) ℕ UU ℕ (Pipeline.pin (pcfgs (F := Ideal)) adm p) d
  | ⟨0, _⟩ => fun d => dat f₀ d

theorem body_eq : (defs₀ (F := Ideal)) .tc cfg0.body (cfg0.bodyArgs t0_0 (cfg0.slots t0_0))
    = cc0__ranks_kernel (grid0.coords t0_0) gV (Memref.isWhole_whole _) := rfl

theorem body_obligation (d : Dev nD) : BodyObligation (dat f₀ d) (defs₀ (F := Ideal)) 𝒱₀ none Set.univ := fun t => by
  obtain rfl := fin_N0 t
  rw [bigSep_W0, bigSep_W0]
  rw [body_eq, show (dat f₀ d).Φ t0_0.castSucc = (dat f₀ d).Φ t0_0.succ from rfl,
    show (dat f₀ d).owesAt none t0_0.succ = (dat f₀ d).owesAt none t0_0.castSucc from rfl]
  show iprop((dat f₀ d).Φ t0_0.succ ∗ (dat f₀ d).owesAt none t0_0.castSucc ∗ ∃ e, owns (SparseCore.T d) gV fullShare ((dat f₀ d).before 0 t0_0 e))
    ⊢ wp frame (wpE (defs₀ (F := Ideal)) 𝒱₀ (SparseCore.T d) none) Set.univ (cc0__ranks_kernel (grid0.coords t0_0) gV (Memref.isWhole_whole _)) fun _ =>
      iprop((dat f₀ d).Φ t0_0.succ ∗ (dat f₀ d).owesAt none t0_0.castSucc ∗ owns (SparseCore.T d) gV fullShare (tbl rank))
  simp only [owns_whole_eq]
  iintro ⟨HΦ, Howes, ⟨%e, %g, -, H⟩⟩
  iapply (wp_wand frame (wpE (defs₀ (F := Ideal)) 𝒱₀ (SparseCore.T d) none) Set.univ) $$ [H]
  · iapply (run d (grid0.coords t0_0) rfl)
    iexists g
    isplitr
    · ipureintro; exact fun y hy => absurd hy (Nat.not_lt_zero _)
    iexact H
  iintro %u ⟨%f, %hf, H⟩
  isplitl [HΦ]; · iexact HΦ
  isplitl [Howes]; · iexact Howes
  iexists f
  isplitr
  · ipureintro; exact done_all hf
  iexact H

theorem off_zero : (fun a => win0_0.index t0_0 a * main_v0.ty.shape.size a) = fun _ => 0 := funext fun a => by fin_cases a <;> decide

theorem xsize_eq : ∀ a : Fin 3, win0_0.xsize (grid0.coords t0_0) a = S16x256x8.size a := by decide +kernel

theorem flushed_eq (d : Dev nD) : (dat f₀ d).flushed 0 t0_0 = ((cfg0.win 0).blk t0_0).view.read (Elt Ideal) (tbl rank : Buf (Elt Ideal) (rLoc d)) :=
  (Memref.read_access_unit_zero (Elt Ideal) main_v0 off_zero (fun a => by rw [congrFun off_zero a]; simp) (tbl rank : Buf (Elt Ideal) (rLoc d))).symm

theorem covered (i : S16x256x8.Idx) : i ∈ ((cfg0.win 0).blk t0_0).view.set := by
  show i ∈ ((View.whole main_v0).slice (win0_0.rect t0_0)).set
  rw [View.set_slice_whole, Rect.mem_set_unit]
  intro a
  have h := (i a).isLt
  have e := congrFun off_zero a
  refine ⟨(Nat.le_of_eq e).trans (Nat.zero_le _), ?_⟩
  show (i a).val < win0_0.index t0_0 a * win0_0.size a + win0_0.xsize (grid0.coords t0_0) a
  rw [show win0_0.index t0_0 a * win0_0.size a = 0 from e, show win0_0.xsize (grid0.coords t0_0) a = S16x256x8.size a from xsize_eq a, Nat.zero_add]
  exact h

/-- The array after the region. -/
theorem arr_end (d : Dev nD) : (dat f₀ d).arrAt 0 cfg0.N = tbl rank :=
  Dat.arrAt_eq_of_cover (dat f₀ d) 0 (tbl rank) (fun t _ => by obtain rfl := fin_N0 t; exact flushed_eq f₀ d)
    (fun i => ⟨t0_0, flush0_0 t0_0, covered i⟩)

theorem owes_none (d : Dev nD) (g : GSem nD τ sig) : K.Otc d 0 g none = 0 :=
  Nat.eq_zero_of_not_pos fun h => by
    have := K.lev_of_Otc_pos h
    exact absurd (show 1 ≤ 0 from this) (by decide)

variable (adm : (p : Fin 1) → (pcfgs (F := Ideal) p).Adm)

/-- What the core owes before the SparseCore call, its waits so far at level zero. -/
abbrev debts (d : Dev nD) : sProp 𝕄 := iprop(∃ W, ⌜K.WBelow (SparseCore.T d) W 0⌝ ∗ owes (SparseCore.T d) (K.Otc d 0) W)

theorem arrays_at (d : Dev nD) (G : (w : Fin (Pipeline.pin (pcfgs (F := Ideal)) adm 0).W) → Buf (Elt Ideal) (((Pipeline.pin (pcfgs (F := Ideal)) adm 0).spec w).arr.view.loc (SparseCore.T d))) :
    ((pdats f₀ adm 0 d).arrays G : sProp 𝕄) = (rLoc d ↦{fullShare} (G 0 : Buf (Elt Ideal) (rLoc d))) := by
  rw [Pipeline.arrays_eq (Pipeline.pin (pcfgs (F := Ideal)) adm) (pdats f₀ adm) 0 d arr_whole0 ((pdats f₀ adm 0 d).share_full fun _ => rfl) G]
  exact bigSep_W0 _

set_option backward.isDefEq.respectTransparency.types false in
/-- The region. -/
def reg : Pipeline.RegionSeg (pcfgs (F := Ideal)) adm (pdats f₀ adm) none (defs₀ (F := Ideal)) 𝒱₀ K.L K.lev 0 where
  win := launch0.win.to₀
  block_pos := launch0.block_pos
  stage_whole := launch0.stage_whole
  K := PEmpty
  osem k := k.elim
  ho := Pipeline.OwnSemFacts.none _
  hbody d := (body_obligation f₀ d).loose
  hwaits d := Pipeline.cellsWaits_intro (Pipeline.pin (pcfgs (F := Ideal)) adm) (pdats f₀ adm) none 0 d fun w s t => K.mayWait_none _ (owes_none d)
  pre d := iprop((rLoc d ↦{fullShare} f₀ d) ∗ debts d)
  post d := iprop((rLoc d ↦{fullShare} (tbl rank : Buf (Elt Ideal) (rLoc d))) ∗ debts d)
  X _ := BI.emp
  Y _ := BI.emp
  Z _ := BI.emp
  hentry d := by
    rw [Pipeline.ownSems0_none, arrays_at]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin d := by
    rw [show (pdats f₀ adm 0 d).Φ 0 = Pipeline.scopedRest (Ix := HIx 1) (Name := ℕ) (U := UU) (Lvl := ℕ) (Val := Elt Ideal) spec0 d from rfl]
    iintro ⟨-, -, Hr⟩; iexact Hr
  hout d := by
    rw [Pipeline.ownSems0_none, show (pdats f₀ adm 0 d).Φ (Fin.last _) = Pipeline.scopedRest (Ix := HIx 1) (Name := ℕ) (U := UU) (Lvl := ℕ) (Val := Elt Ideal) spec0 d from rfl]
    iintro Hr
    isplitr; · iempintro
    isplitr; · iempintro
    iexact Hr
  hexit d := by
    rw [arrays_at, show (pdats f₀ adm 0 d).arrAt 0 (Pipeline.pin (pcfgs (F := Ideal)) adm 0).N = (tbl rank : Buf (Elt Ideal) (rLoc d)) from arr_end f₀ d]
    iintro ⟨Ha, HO, -, -⟩
    imodintro
    isplitl [Ha]; · iexact Ha
    unfold Pipeline.Dat.owesAt Pipeline.owesWithin
    icases HO with ⟨%W, %hW, HO⟩; iexists W; isplitr
    · ipureintro
      intro p hp
      rcases hW hp with h | ⟨w, s, h⟩
      · exact h
      · subst h; exact le_rfl
    iexact HO

/-- The call, as @main makes it. -/
theorem wp_call (d : Dev nD) (Q : PUnit → sProp 𝕄) :
    iprop(levAts K.L K.lev ∗ boundary (SparseCore.T d) ∗ (rLoc d ↦{fullShare} f₀ d) ∗ debts d
        ∗ Pipeline.cellsGhost (Pipeline.pin (pcfgs (F := Ideal)) adm) EP 0 d ∗ Pipeline.toksInit (Pipeline.pin (pcfgs (F := Ideal)) adm) EP 0 d
        ∗ (iprop(boundary (SparseCore.T d) ∗ (rLoc d ↦{fullShare} (tbl rank : Buf (Elt Ideal) (rLoc d))) ∗ debts d) -∗ Q ⟨⟩))
      ⊢ wp frame (wpE (K.defs D) 𝒱 (SparseCore.T d) none) Set.univ (Prog.lift (.customCall (SparseCore.inner (Pipeline.entry 0)) ())) Q := by
  have e : (Prog.lift (.customCall (SparseCore.inner (Pipeline.entry 0)) ()) : Prog (TpuEff nD τ sig (Elt Ideal) (SparseCore.Sig ΛP 1) .tc) PUnit)
      = SparseCore.liftProg (Q := 1) (.op (.customCall (Pipeline.entry (P := Fin 1) 0) ()) .ret : Prog (TpuEff nD τ sig (Elt Ideal) ΛP .tc) PUnit) := rfl
  rw [e]
  have h1 := K.wp_liftProg D 𝒱 (SparseCore.T d) Set.univ none (.op (.customCall (Pipeline.entry (P := Fin 1) 0) ()) .ret : Prog (TpuEff nD τ sig (Elt Ideal) ΛP .tc) PUnit) Q
  have h2 := Pipeline.RegionSeg.wp (pcfgs (F := Ideal)) adm (pdats f₀ adm) none cellOf_inj EP (defs₀ (F := Ideal)) 𝒱₀ K.L K.lev (reg f₀ adm) d none
    (fun u hu => nomatch hu) .ret Q
  have h3 : iprop((iprop(boundary (SparseCore.T d) ∗ (rLoc d ↦{fullShare} (tbl rank : Buf (Elt Ideal) (rLoc d))) ∗ debts d)
          -∗ wp frame (wpE D 𝒱 (SparseCore.T d) none) Set.univ (.ret ⟨⟩ : Prog (TpuEff nD τ sig (Elt Ideal) ΛP .tc) PUnit) Q)
        ∗ boundary (SparseCore.T d) ∗ ((rLoc d ↦{fullShare} f₀ d) ∗ debts d) ∗ levAts K.L K.lev
        ∗ Pipeline.cellsGhost (Pipeline.pin (pcfgs (F := Ideal)) adm) EP 0 d ∗ Pipeline.toksInit (Pipeline.pin (pcfgs (F := Ideal)) adm) EP 0 d)
      ⊢ wp frame (wpE (K.defs D) 𝒱 (SparseCore.T d) none) Set.univ
        (SparseCore.liftProg (Q := 1) (.op (.customCall (Pipeline.entry (P := Fin 1) 0) ()) .ret : Prog (TpuEff nD τ sig (Elt Ideal) ΛP .tc) PUnit)) Q := h2.trans h1
  iintro ⟨Hl, Hb, Hr, HO, Hg, Ht, Hk⟩
  iapply h3
  isplitl [Hk]
  · iintro ⟨Hb, Hr, HO⟩
    rw [wp_ret]; imodintro
    iapply Hk
    isplitl [Hb]; · iexact Hb
    isplitl [Hr]; · iexact Hr
    iexact HO
  isplitl [Hb]; · iexact Hb
  isplitl [Hr HO]
  · isplitl [Hr]; · iexact Hr
    iexact HO
  isplitl [Hl]; · iexact Hl
  isplitl [Hg]; · iexact Hg
  iexact Ht

end Cert.Proof.Ranks

end
-- ==== Proof.Tile.lean ====
/-
  One tile's task, with values: its block of the table fetched, and four times over the row buffer filled with ones, the
  places the row's 256 ranks name cleared sixteen at a time, and the row copied out. Every step of the program is one
  of six lemmas (a fetch, a fill, a check, a gather, a scatter, a copy out), each over what the two buffers hold.
-/
module

public import proofs.«01_k».proof.Proof.Base

@[expose] public section

noncomputable section

namespace Cert.Proof.Scatter

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

local notation "tV" => (Memref.whole Cert.KernelIdeal.main_v0_scv : Memref Cert.KernelIdeal.sig Kind.scVector Space.hbm Cert.KernelIdeal.S16x256x8 EltTy.i32)
local notation "oV" => (Memref.whole Cert.KernelIdeal.main_v1_scv : Memref Cert.KernelIdeal.sig Kind.scVector Space.hbm Cert.KernelIdeal.S128x1024 EltTy.i32)
local notation "sV" => (Memref.whole Cert.KernelIdeal.cc1_scratch0 : Memref Cert.KernelIdeal.sig Kind.scVector Space.vmem Cert.KernelIdeal.S256x8 EltTy.i32)
local notation "rV" => (Memref.whole Cert.KernelIdeal.cc1_scratch1 : Memref Cert.KernelIdeal.sig Kind.scVector Space.vmem Cert.KernelIdeal.S1024 EltTy.i32)

/-! ## What the buffers hold, as functions -/

/-- The first `o` words of the row are one. -/
def ones (o : ℕ) (f : S1024.Idx → BitVec 32) : Prop := ∀ y, (y 0).val < o → f y = 1#32

/-- The row holds ones, but zeros where the first `n` ranks point. -/
def cut (T : ℕ → ℕ) (n : ℕ) (f : S1024.Idx → BitVec 32) : Prop := ∀ y, f y = cutAt T n (y 0).val

/-- A vector holds sixteen ranks from the `n`-th on. -/
def gath (T : ℕ → ℕ) (n : ℕ) (v : S16.Idx → BitVec 32) : Prop := ∀ x, (v x).toNat = T (n + (x 0).val)

theorem cut_zero {T : ℕ → ℕ} {f : S1024.Idx → BitVec 32} (h : ones 1024 f) : cut T 0 f := fun y => by
  rw [h y (y 0).isLt, cutAt, if_neg (by rintro ⟨t, ht, -⟩; exact absurd ht (Nat.not_lt_zero t))]

/-- The sixteen lane numbers from `w` on. -/
theorem lanes (w : BitVec 32) (hw : w.toNat < 1024) (x : S16.Idx) :
    (addi (iota .scVector S16 32 [0] iota_S16_d0_w32_scVector) (broadcast S16 w) x).toNat = w.toNat + (x 0).val := by
  have hx : (x 0).val < 16 := (x 0).isLt
  have e : iota .scVector S16 32 [0] iota_S16_d0_w32_scVector x = BitVec.ofNat 32 (x 0).val := by
    simp [iota]
  show (iota .scVector S16 32 [0] iota_S16_d0_w32_scVector x + w).toNat = _
  rw [e, BitVec.toNat_add, BitVec.toNat_ofNat]
  omega

/-- A column number, repeated over the lanes. -/
theorem col_lanes {w : BitVec 32} {r : ℕ} (h : w.toNat = r) (x : S16.Idx) :
    (muli (broadcast S16 1#32) (broadcast S16 w) x).toNat = r := by
  show (1#32 * w).toNat = r
  rw [BitVec.one_mul, h]

theorem add_row {b : BitVec 32} {r : ℕ} (h : b.toNat = r) (hr : r < 8) (k : ℕ) (hk : k < 8) :
    (Scalar.addi b (BitVec.ofNat 32 k)).toNat = r + k := by
  show (b + BitVec.ofNat 32 k).toNat = _
  rw [BitVec.toNat_add, BitVec.toNat_ofNat, h]; omega

/-- The scatter's fold: zero where an index of the list points, else what it was. -/
theorem scatter_fold {α : Type} (l : List α) (c : α → S1024.Idx → Prop) [∀ k j, Decidable (c k j)] (f : S1024.Idx → BitVec 32) (j : S1024.Idx) :
    (l.foldl (fun g k => fun j => if c k j then 0#32 else g j) f) j = if ∃ k ∈ l, c k j then 0#32 else f j := by
  induction l generalizing f with
  | nil => simp
  | cons a l ih =>
    rw [List.foldl_cons, ih]
    by_cases h : ∃ k ∈ l, c k j
    · rw [if_pos h, if_pos (by obtain ⟨k, hk, hc⟩ := h; exact ⟨k, List.mem_cons_of_mem _ hk, hc⟩)]
    · rw [if_neg h]
      by_cases ha : c a j
      · rw [if_pos ha, if_pos ⟨a, List.mem_cons_self, ha⟩]
      · rw [if_neg ha, if_neg]
        rintro ⟨k, hk, hc⟩
        rcases List.mem_cons.mp hk with rfl | hk
        · exact ha hc
        · exact h ⟨k, hk, hc⟩

theorem cut_store {T : ℕ → ℕ} {n : ℕ} {f : S1024.Idx → BitVec 32} (hf : cut T n f) {v : IVec S16 32} (hv : gath T n v)
    (h : ∀ a x, ((![v] : Fin S1024.rank → IVec S16 32) a x).toNat < S1024.size a) :
    cut T (n + 16) (storeIdx (F := Ideal) (e := .i32) f ![v] (broadcast S16 0#32) (fun _ => 1#1) false h) := by
  intro y
  have e := scatter_fold (List.finRange 16) (fun k (j : S1024.Idx) => ∀ a, (j a).val = (idxAt (s := S1024) ![v] h (Shape.ofLane k) a).val) f y
  have e' : storeIdx (F := Ideal) (e := .i32) f ![v] (broadcast S16 0#32) (fun _ => 1#1) false h y
      = (List.finRange 16).foldl (fun g k => fun j : S1024.Idx => if ∀ a, (j a).val = (idxAt (s := S1024) ![v] h (Shape.ofLane k) a).val then 0#32 else g j) f y := by
    unfold storeIdx
    simp only [if_pos (show (1#1 : BitVec 1) = 1 from rfl), Bool.false_eq_true, if_false]
    rfl
  refine (e'.trans e).trans ?_
  have hc : ∀ k : Fin 16, (∀ a, (y a).val = (idxAt (s := S1024) ![v] h (Shape.ofLane k) a).val) ↔ T (n + k.val) = (y 0).val := by
    intro k
    have hk : (idxAt (s := S1024) ![v] h (Shape.ofLane k) 0).val = T (n + k.val) := hv (Shape.ofLane k)
    constructor
    · intro q; rw [← hk]; exact (q 0).symm
    · intro q a
      obtain rfl : a = 0 := Subsingleton.elim _ _
      rw [hk, q]
  by_cases hy : ∃ t < n + 16, T t = (y 0).val
  · rw [show cutAt T (n + 16) (y 0).val = 0#32 from if_pos hy]
    obtain ⟨t, ht, hT⟩ := hy
    by_cases hn : t < n
    · split
      · rfl
      · rw [hf y, cutAt, if_pos ⟨t, hn, hT⟩]
    · rw [if_pos ⟨⟨t - n, by omega⟩, List.mem_finRange _, (hc _).mpr (by rw [← hT]; congr 1; show n + (t - n) = t; omega)⟩]
  · rw [show cutAt T (n + 16) (y 0).val = 1#32 from if_neg hy, if_neg, hf y, cutAt, if_neg]
    · rintro ⟨t, ht, hT⟩; exact hy ⟨t, by omega, hT⟩
    · rintro ⟨k, -, hk⟩; exact hy ⟨n + k.val, by have := k.isLt; omega, (hc k).mp hk⟩

/-! ## The steps -/

abbrev cV (L : grid1.Coords) : Fin τ.nSC := (L 0).castLE hcore1
abbrev jV (L : grid1.Coords) : Fin τ.nSub := (L 1).castLE hsub1

section Steps

variable (d : Dev nD) (L : grid1.Coords)

/-- The row buffer at a content of a kind; the table block likewise. -/
abbrev rowAt (d : Dev nD) (L : grid1.Coords) (φ : (S1024.Idx → BitVec 32) → Prop) : sProp 𝕄 :=
  iprop(∃ f : S1024.Idx → BitVec 32, ⌜φ f⌝ ∗ (V d (cV L) (jV L)).loc cc1_scratch1 ↦{fullShare} f)
abbrev blkAt (d : Dev nD) (L : grid1.Coords) (φ : (S256x8.Idx → BitVec 32) → Prop) : sProp 𝕄 :=
  iprop(∃ f : S256x8.Idx → BitVec 32, ⌜φ f⌝ ∗ (V d (cV L) (jV L)).loc cc1_scratch0 ↦{fullShare} f)

local notation "TP" => TpuEff nD τ sig (Elt Ideal) Λ₀ (Proc.scVector (cV L) (jV L))

variable {α : Type} (Q : α → sProp 𝕄)

theorem step_check {P : Prop} (dec : Decidable P) (k : PLift P → Prog TP α) :
    iprop(⌜P⌝ ∗ ∀ h : P, wp frame (wpE (defs₀ (F := Ideal)) 𝒱₀ (V d (cV L) (jV L)) none) Set.univ (k ⟨h⟩) Q)
      ⊢ wp frame (wpE (defs₀ (F := Ideal)) 𝒱₀ (V d (cV L) (jV L)) none) Set.univ (Prog.lift (TpuEff.assume P dec) >>= k) Q := by
  iintro ⟨%h, H⟩
  iapply (show wp frame (wpE (defs₀ (F := Ideal)) 𝒱₀ (V d (cV L) (jV L)) none) Set.univ (k ⟨h⟩) Q
      ⊢ wp frame (wpE (defs₀ (F := Ideal)) 𝒱₀ (V d (cV L) (jV L)) none) Set.univ (Prog.lift (TpuEff.assume P dec) >>= k) Q from
    wp_assume 𝒱₀ (V d (cV L) (jV L)) none Set.univ h)
  iapply H

theorem ones_store {o : ℕ} {f : S1024.Idx → BitVec 32} (hf : ones o f) (inb : ∀ a, (![o] : Fin 1 → ℕ) a + S16.size a ≤ S1024.size a) :
    ones (o + 16) (((rV).access (Rect.unit (s := S1024) ![o] S16.size inb)).write (Elt Ideal) f (broadcast S16 1#32) Finset.univ) := by
  intro y hy
  by_cases h : o ≤ (y 0).val
  · exact View.read_writes_cons_hit_of_coords (Val := Elt Ideal) (rV).view f (Rect.unit (s := S1024) ![o] S16.size inb) (fun _ => (1#32 : BitVec 32)) []
      (fun (a : Fin 1) => ⟨(y 0).val - o, by obtain rfl : a = 0 := Subsingleton.elim _ _; show _ < 16; omega⟩) y
      (fun (a : Fin 1) => by obtain rfl : a = 0 := Subsingleton.elim _ _; show (y 0).val = o + 1 * ((y 0).val - o); omega)
  · exact (View.read_writes_cons_miss_of_axis (Val := Elt Ideal) (rV).view f ⟨Rect.unit (s := S1024) ![o] S16.size inb, fun _ => (1#32 : BitVec 32)⟩ []
      y (0 : Fin 1) o 16 rfl rfl rfl (Or.inl (by omega))).trans (hf y (by omega))

theorem step_ones (o : ℕ) (inb : ∀ a, (![o] : Fin 1 → ℕ) a + S16.size a ≤ S1024.size a)
    (hl : (rV).view.LoadsAt (Rect.unit (s := S1024) ![o] S16.size inb).toLoadRect)
    (hs : ((rV).access (Rect.unit (s := S1024) ![o] S16.size inb)).Stores Finset.univ) (hm : _) (k : PUnit → Prog TP α) :
    rowAt d L (ones o)
      ⊢ iprop((rowAt d L (ones (o + 16)) -∗ wp frame (wpE (defs₀ (F := Ideal)) 𝒱₀ (V d (cV L) (jV L)) none) Set.univ (k ⟨⟩) Q)
        -∗ wp frame (wpE (defs₀ (F := Ideal)) 𝒱₀ (V d (cV L) (jV L)) none) Set.univ
          ((Prog.lift (TpuEff.load (rV) (Rect.unit (s := S1024) ![o] S16.size inb).toLoadRect hl) : Prog TP _) >>= fun _ =>
            Prog.lift (TpuEff.store (rV) (Rect.unit (s := S1024) ![o] S16.size inb) (k1_pay2) Finset.univ hs hm) >>= k) Q) := by
  iintro ⟨%f, %hf, H⟩ Hk
  iapply (wp_load_rect 𝒱₀ (V d (cV L) (jV L)) none Set.univ (m := rV) (r := Rect.unit (s := S1024) ![o] S16.size inb) (S := Finset.univ) (Finset.subset_univ _)) $$ H
  iintro H
  iapply (wp_store 𝒱₀ (V d (cV L) (jV L)) none Set.univ (m := rV) (r := Rect.unit (s := S1024) ![o] S16.size inb) (S := Finset.univ) (Finset.subset_univ _)) $$ H
  iintro H
  iapply Hk
  iexists _; isplitr
  swap; · iexact H
  ipureintro
  exact ones_store hf inb

/-- The block of the table with number `g`. -/
def block (rk : ℕ → ℕ → ℕ) (g : ℕ) (f : S256x8.Idx → BitVec 32) : Prop := ∀ y, f y = BitVec.ofNat 32 (rk (8 * g + (y 1).val) (y 0).val)

/-- The index vectors of a gather: lanes from `w` on, in column `u`. -/
abbrev gix (w u : BitVec 32) : Fin 2 → IVec S16 32 :=
  ![addi (iota .scVector S16 32 [0] iota_S16_d0_w32_scVector) (broadcast S16 w), muli (broadcast S16 1#32) (broadcast S16 u)]

theorem gath_load {rk : ℕ → ℕ → ℕ} (hrk : ∀ b t, rk b t < 1024) {g b : ℕ} {w u : BitVec 32} (hb : 8 * g + u.toNat = b)
    {f : S256x8.Idx → BitVec 32} (hf : block rk g f) (h : ∀ a x, (gix w u a x).toNat < S256x8.size a) :
    gath (rk b) w.toNat (loadIdx (F := Ideal) (s := S256x8) (e := .i32) f (gix w u) h) := fun x => by
  have h0 : w.toNat < 1024 := by
    obtain ⟨z, hz⟩ : ∃ z : S16.Idx, (z 0).val = 0 := ⟨fun (a : Fin 1) => ⟨0, by obtain rfl := Subsingleton.elim a 0; decide⟩, rfl⟩
    have h' : (iota .scVector S16 32 [0] iota_S16_d0_w32_scVector z + w).toNat < 256 := h 0 z
    rw [show iota .scVector S16 32 [0] iota_S16_d0_w32_scVector z = BitVec.ofNat 32 (z 0).val by simp [iota], hz, BitVec.zero_add] at h'
    omega
  refine (congrArg BitVec.toNat (hf (idxAt (s := S256x8) (gix w u) h x))).trans ?_
  have e0 : (idxAt (s := S256x8) (gix w u) h x 0).val = w.toNat + (x 0).val := lanes w h0 x
  have e1 : (idxAt (s := S256x8) (gix w u) h x 1).val = u.toNat := col_lanes rfl x
  rw [e0, e1, hb, BitVec.toNat_ofNat, Nat.mod_eq_of_lt (lt_trans (hrk _ _) (by decide))]

theorem step_gather {rk : ℕ → ℕ → ℕ} (hrk : ∀ b t, rk b t < 1024) {g b : ℕ} {w u : BitVec 32} (hb : 8 * g + u.toNat = b)
    (h : ∀ a x, (gix w u a x).toNat < S256x8.size a) (hl : (sV).view.Loads) (k : Vec Ideal S16 .i32 → Prog TP α) :
    blkAt d L (block rk g)
      ⊢ iprop((∀ v, ⌜gath (rk b) w.toNat v⌝ -∗ blkAt d L (block rk g) -∗ wp frame (wpE (defs₀ (F := Ideal)) 𝒱₀ (V d (cV L) (jV L)) none) Set.univ (k v) Q)
        -∗ wp frame (wpE (defs₀ (F := Ideal)) 𝒱₀ (V d (cV L) (jV L)) none) Set.univ (SparseCore.vectorLoadIdx (sV) (gix w u) h hl >>= k) Q) := by
  iintro ⟨%f, %hf, H⟩ Hk
  iapply (SparseCore.wp_vectorLoadIdx 𝒱₀ (V d (cV L) (jV L)) none Set.univ (base := sV) (S := Finset.univ) (Finset.subset_univ _)) $$ H
  iintro H
  iapply Hk
  · ipureintro
    rw [Memref.read_access_whole]
    exact gath_load hrk hb hf h
  · iexists f; isplitr
    · ipureintro; exact hf
    · iexact H

theorem step_scatter {T : ℕ → ℕ} {n : ℕ} {v : IVec S16 32} (hv : gath T n v)
    (h : ∀ a x, ((![v] : Fin S1024.rank → IVec S16 32) a x).toNat < S1024.size a)
    (hs : ((rV).access (.whole S1024)).Stores Finset.univ) (k : PUnit → Prog TP α) :
    rowAt d L (cut T n)
      ⊢ iprop((rowAt d L (cut T (n + 16)) -∗ wp frame (wpE (defs₀ (F := Ideal)) 𝒱₀ (V d (cV L) (jV L)) none) Set.univ (k ⟨⟩) Q)
        -∗ wp frame (wpE (defs₀ (F := Ideal)) 𝒱₀ (V d (cV L) (jV L)) none) Set.univ
          (SparseCore.vectorStoreIdx (rV) ![v] k1_pay3 (fun _ => 1#1) false h hs >>= k) Q) := by
  iintro ⟨%f, %hf, H⟩ Hk
  have hS : ((rV).access (.whole S1024)).set = Finset.univ := Memref.set_access_whole _
  ihave H' := (Entails.of_eq (show ((V d (cV L) (jV L)).loc cc1_scratch1 ↦{fullShare} f : sProp 𝕄)
      = ((rV).access (.whole S1024)).loc (V d (cV L) (jV L)) ↦[((rV).access (.whole S1024)).set]{fullShare} f by rw [hS])) $$ H
  iapply (SparseCore.wp_vectorStoreIdx 𝒱₀ (V d (cV L) (jV L)) none Set.univ (base := rV)) $$ H'
  rw [Memref.write_access_whole_univ, Memref.read_access_whole, Memref.set_access_whole cc1_scratch1]
  iintro H
  iapply Hk
  iexists _; isplitr
  swap; · iexact H
  ipureintro
  exact cut_store hf hv h

/-- The check before a gather passes. -/
theorem ok_gather {w u : BitVec 32} (hw : w.toNat + 16 ≤ 256) (hu : u.toNat < 8) :
    ∀ (a : Fin 2) x, (gix w u a x).toNat < S256x8.size a := by
  intro a x
  have hx : (x 0).val < 16 := (x 0).isLt
  match a with
  | ⟨0, _⟩ =>
    refine lt_of_eq_of_lt (lanes w (by omega) x) ?_
    show _ < 256; omega
  | ⟨1, _⟩ => exact lt_of_eq_of_lt (col_lanes rfl x) hu

/-- The check before a scatter passes: the ranks are places of the row. -/
theorem ok_scatter {T : ℕ → ℕ} {n : ℕ} {v : IVec S16 32} (hv : gath T n v) (hT : ∀ t, T t < 1024) :
    ∀ (a : Fin 1) x, ((![v] : Fin 1 → IVec S16 32) a x).toNat < S1024.size a := by
  intro a x
  obtain rfl : a = 0 := Subsingleton.elim _ _
  show (v x).toNat < 1024
  rw [hv]; exact hT _

/-! ### The copies -/

/-- Row `b` of the output, and as the program slices it. -/
def rowSet (b : ℕ) : Finset S128x1024.Idx := Finset.univ.filter fun y => (y 0).val = b

abbrev oRow (off : Fin 2 → ℕ) (inb : ∀ a, off a + S1x1024.size a ≤ S128x1024.size a) : Memref sig .scVector .hbm S1024 .i32 :=
  ((oV).slice (Rect.unit (s := S128x1024) off S1x1024.size inb) (fun _ => rfl)).squeeze S1024 squeezes_S1x1024_S1024

/-- Block `g` of the table as the program slices it. -/
abbrev tBlk (off : Fin 3 → ℕ) (inb : ∀ a, off a + S1x256x8.size a ≤ S16x256x8.size a) : Memref sig .scVector .hbm S256x8 .i32 :=
  ((tV).slice (Rect.unit (s := S16x256x8) off S1x256x8.size inb) (fun _ => rfl)).squeeze S256x8 squeezes_S1x256x8_S256x8

theorem oRow_credit (off : Fin 2 → ℕ) (inb : ∀ a, off a + S1x1024.size a ≤ S128x1024.size a) : 0 < (oRow off inb).view.dmaCredit :=
  show 0 < (oRow ![0, 0] (by decide)).view.dmaCredit by decide

theorem oRow_emb {b : ℕ} {off : Fin 2 → ℕ} {inb : ∀ a, off a + S1x1024.size a ≤ S128x1024.size a} (hoff : off = ![b, 0]) (x : S1024.Idx) :
    (((oRow off inb).view.emb x : S128x1024.Idx) 0).val = b ∧ (((oRow off inb).view.emb x : S128x1024.Idx) 1).val = (x 0).val := by
  subst hoff
  have e : (oRow ![b, 0] inb).view.emb x = (Rect.unit (s := S128x1024) ![b, 0] S1x1024.size inb).emb (Fin.cons ⟨0, Nat.one_pos⟩ x) :=
    congrArg (Rect.unit (s := S128x1024) ![b, 0] S1x1024.size inb).emb (Shape.reshapeEquiv_cons_one _ x)
  rw [e]
  constructor
  · show b + 1 * 0 = b; omega
  · show 0 + 1 * (x 0).val = _; omega

theorem oRow_set {b : ℕ} {off : Fin 2 → ℕ} {inb : ∀ a, off a + S1x1024.size a ≤ S128x1024.size a} (hoff : off = ![b, 0]) :
    (oRow off inb).view.set = rowSet b := by
  ext y
  constructor
  · intro h
    obtain ⟨x, -, rfl⟩ := Finset.mem_map.mp h
    exact Finset.mem_filter.mpr ⟨Finset.mem_univ _, (oRow_emb hoff x).1⟩
  · intro h
    have h0 : ((y : S128x1024.Idx) 0).val = b := (Finset.mem_filter.mp h).2
    refine Finset.mem_map.mpr ⟨fun a => ⟨((y : S128x1024.Idx) 1).val, by obtain rfl : a = 0 := Subsingleton.elim _ _; exact ((y : S128x1024.Idx) 1).isLt⟩, Finset.mem_univ _, ?_⟩
    obtain ⟨e0, e1⟩ := oRow_emb (inb := inb) hoff (fun a => ⟨((y : S128x1024.Idx) 1).val, by obtain rfl : a = 0 := Subsingleton.elim _ _; exact ((y : S128x1024.Idx) 1).isLt⟩)
    funext (a : Fin 2)
    match a with
    | 0 => exact Fin.ext (e0.trans h0.symm)
    | 1 => exact Fin.ext e1

theorem tBlk_emb {g : ℕ} {off : Fin 3 → ℕ} {inb : ∀ a, off a + S1x256x8.size a ≤ S16x256x8.size a} (hoff : off = ![g, 0, 0]) (x : S256x8.Idx) :
    (((tBlk off inb).view.emb x : S16x256x8.Idx) 0).val = g ∧ (((tBlk off inb).view.emb x : S16x256x8.Idx) 1).val = (x 0).val
      ∧ (((tBlk off inb).view.emb x : S16x256x8.Idx) 2).val = (x 1).val := by
  subst hoff
  have e : (tBlk ![g, 0, 0] inb).view.emb x = (Rect.unit (s := S16x256x8) ![g, 0, 0] S1x256x8.size inb).emb (Fin.cons ⟨0, Nat.one_pos⟩ x) :=
    congrArg (Rect.unit (s := S16x256x8) ![g, 0, 0] S1x256x8.size inb).emb (Shape.reshapeEquiv_cons_one _ x)
  rw [e]
  refine ⟨?_, ?_, ?_⟩
  · show g + 1 * 0 = g; omega
  · show 0 + 1 * (x 0).val = _; omega
  · show 0 + 1 * (x 1).val = _; omega

/-- What a thread owes, with the waits so far: those it came with, and local ones. -/
abbrev owing (d : Dev nD) (L : grid1.Coords) (O : CellTallies nD τ sig (HIx 1)) (W : Waits sig (HIx 1)) : sProp 𝕄 :=
  iprop(∃ W', ⌜∀ p ∈ W', p ∈ W ∨ p.2 = none⌝ ∗ owes (V d (cV L) (jV L)) O W')

variable (rk : ℕ → ℕ → ℕ) (O : CellTallies nD τ sig (HIx 1)) (W : Waits sig (HIx 1))

theorem step_out {b : ℕ} {off : Fin 2 → ℕ} {inb : ∀ a, off a + S1x1024.size a ≤ S128x1024.size a} (hoff : off = ![b, 0])
    (fo : Buf E (oLoc d)) (sem : DmaSem sig) (h1 h2 h3 h4 h5) (k : PUnit → Prog TP α) :
    iprop(Transfers.MayWaits (V d (cV L) (jV L)) (default : HIx 1) O
        ∗ rowAt d L (cut (rk b) 256) ∗ (oLoc d ↦[rowSet b]{fullShare} fo) ∗ semVal (V d (cV L) (jV L), .dma sem) 0 ∗ owing d L O W)
      ⊢ iprop((iprop(rowAt d L (ones 0) ∗ (oLoc d ↦[rowSet b]{fullShare} out rk) ∗ semVal (V d (cV L) (jV L), .dma sem) 0 ∗ owing d L O W)
          -∗ wp frame (wpE (defs₀ (F := Ideal)) 𝒱₀ (V d (cV L) (jV L)) none) Set.univ (k ⟨⟩) Q)
        -∗ wp frame (wpE (defs₀ (F := Ideal)) 𝒱₀ (V d (cV L) (jV L)) none) Set.univ
          (Prog.lift (TpuEff.enqueueDma (rV) (.here (oRow off inb)) (.dma sem) h1 h2 h3) >>= fun _ =>
            Prog.lift (TpuEff.waitDma2 sem (rV) (oRow off inb) h4 h5) >>= k) Q) := by
  iintro ⟨Hmw, ⟨%f, %hf, H⟩, Ho, Hsem, %W', %hW', HO⟩ Hk
  have hr : (rV).view.set = Finset.univ := View.set_whole _
  have ho : (oRow off inb).view.set = rowSet b := oRow_set hoff
  ihave H' := (Entails.of_eq (show ((V d (cV L) (jV L)).loc cc1_scratch1 ↦{fullShare} f : sProp 𝕄)
      = (rV).view.loc (V d (cV L) (jV L)) ↦[(rV).view.set]{fullShare} f by rw [hr])) $$ H
  ihave Ho' := (Entails.of_eq (show (oLoc d ↦[rowSet b]{fullShare} fo : sProp 𝕄)
      = (oRow off inb).view.loc (V d (cV L) (jV L)) ↦[(oRow off inb).view.set]{fullShare} fo by rw [ho])) $$ Ho
  iapply (Transfers.wp_dmaLocal countersEmb 𝒱₀ (V d (cV L) (jV L)) none (default : HIx 1) (oRow off inb).view.dmaCredit rfl (oRow_credit off inb) subset_rfl) $$ [H' Ho' Hsem]
  · isplitl [H']; · iexact H'
    isplitl [Ho']; · iexact Ho'
    iexact Hsem
  have heq : ((oRow off inb).view.loc (V d (cV L) (jV L)) ↦[(oRow off inb).view.set]{fullShare}
        ((oRow off inb).view.write (Elt Ideal) fo ((ReadAs.same (Val := Elt Ideal)).apply ((rV).view.read (Elt Ideal) f)) Finset.univ) : sProp 𝕄)
        = oLoc d ↦[rowSet b]{fullShare} out rk := by
    rw [ho]
    refine pointsTo_congr fun y hy => ?_
    rw [← ho] at hy
    obtain ⟨x, -, rfl⟩ := Finset.mem_map.mp hy
    obtain ⟨e0, e1⟩ := oRow_emb (inb := inb) hoff x
    refine (View.write_emb_of_mem (v := (oRow off inb).view) fo _ (Finset.mem_univ x)).trans ?_
    refine (show _ = f x from rfl).trans ?_
    rw [hf x]
    show _ = cutAt (rk (((oRow off inb).view.emb x : S128x1024.Idx) 0).val) 256 (((oRow off inb).view.emb x : S128x1024.Idx) 1).val
    rw [e0, e1]
  iintro Hfl
  iapply (Transfers.wp_waitLocalO countersEmb 𝒱₀ (V d (cV L) (jV L)) none (default : HIx 1) (rfl : (oRow off inb).view.dmaCredit = _)) $$ [Hfl HO Hmw]
  · isplitl [Hfl]; · iexact Hfl
    isplitl [HO]; · iexact HO
    iapply (Transfers.MayWaits.elim (SemLoc.dma sem)) $$ Hmw
  iintro ⟨⟨Ho, H⟩, Hsem, HO⟩
  iapply Hk
  isplitl [H]
  · iexists f; isplitr
    · ipureintro; intro y hy; exact absurd hy (Nat.not_lt_zero _)
    · iapply (Entails.of_eq (show ((rV).view.loc (V d (cV L) (jV L)) ↦[(rV).view.set]{fullShare} f : sProp 𝕄) = (V d (cV L) (jV L)).loc cc1_scratch1 ↦{fullShare} f by rw [hr])); iexact H
  isplitl [Ho]
  · iapply (Entails.of_eq heq); iexact Ho
  isplitl [Hsem]; · iexact Hsem
  iexists _; isplitr
  swap; · iexact HO
  ipureintro; intro p hp
  rcases Finset.mem_insert.mp hp with hp | hp
  · exact .inr (hp ▸ rfl)
  · exact hW' p hp

theorem step_fetch {g : ℕ} {off : Fin 3 → ℕ} {inb : ∀ a, off a + S1x256x8.size a ≤ S16x256x8.size a} (hoff : off = ![g, 0, 0])
    (q : PosShare TreeShare) (sem : DmaSem sig) (h1 h2 h3 h4 h5) (k : PUnit → Prog TP α) :
    iprop(Transfers.MayWaits (V d (cV L) (jV L)) (default : HIx 1) O
        ∗ blkAt d L (fun _ => True) ∗ (rLoc d ↦{q} tbl rk) ∗ semVal (V d (cV L) (jV L), .dma sem) 0 ∗ owing d L O W)
      ⊢ iprop((iprop(blkAt d L (block rk g) ∗ (rLoc d ↦{q} tbl rk) ∗ semVal (V d (cV L) (jV L), .dma sem) 0 ∗ owing d L O W)
          -∗ wp frame (wpE (defs₀ (F := Ideal)) 𝒱₀ (V d (cV L) (jV L)) none) Set.univ (k ⟨⟩) Q)
        -∗ wp frame (wpE (defs₀ (F := Ideal)) 𝒱₀ (V d (cV L) (jV L)) none) Set.univ
          (Prog.lift (TpuEff.enqueueDma (tBlk off inb) (.here (sV)) (.dma sem) h1 h2 h3) >>= fun _ =>
            Prog.lift (TpuEff.waitDma2 sem (tBlk off inb) (sV) h4 h5) >>= k) Q) := by
  iintro ⟨Hmw, ⟨%f, -, H⟩, Ht, Hsem, %W', %hW', HO⟩ Hk
  have hs : (sV).view.set = Finset.univ := View.set_whole _
  ihave H' := (Entails.of_eq (show ((V d (cV L) (jV L)).loc cc1_scratch0 ↦{fullShare} f : sProp 𝕄)
      = (sV).view.loc (V d (cV L) (jV L)) ↦[(sV).view.set]{fullShare} f by rw [hs])) $$ H
  ihave Hts := (pointsTo_split_subset (ℓ := rLoc d) (q := q) (f := (tbl rk : Buf E (rLoc d))) (S := Finset.univ) (Finset.subset_univ (tBlk off inb).view.set)).1 $$ Ht
  icases Hts with ⟨Ht, Hrest⟩
  iapply (Transfers.wp_dmaLocal countersEmb 𝒱₀ (V d (cV L) (jV L)) none (src := tBlk off inb) (fs := (tbl rk : Buf E (rLoc d))) (q := q) (default : HIx 1) (sV).view.dmaCredit rfl (by decide) subset_rfl) $$ [H' Ht Hsem]
  · isplitl [Ht]; · iexact Ht
    isplitl [H']; · iexact H'
    iexact Hsem
  iintro Hfl
  iapply (Transfers.wp_waitLocalO countersEmb 𝒱₀ (V d (cV L) (jV L)) none (default : HIx 1) (rfl : (sV).view.dmaCredit = _)) $$ [Hfl HO Hmw]
  · isplitl [Hfl]; · iexact Hfl
    isplitl [HO]; · iexact HO
    iapply (Transfers.MayWaits.elim (SemLoc.dma sem)) $$ Hmw
  iintro ⟨⟨H, Ht⟩, Hsem, HO⟩
  ihave Ht' := (pointsTo_split_subset (ℓ := rLoc d) (q := q) (f := (tbl rk : Buf E (rLoc d))) (S := Finset.univ) (Finset.subset_univ (tBlk off inb).view.set)).2 $$ [Ht Hrest]
  · isplitl [Ht]; · iexact Ht
    iexact Hrest
  iapply Hk
  isplitl [H]
  · iexists _; isplitr
    swap
    · iapply (Entails.of_eq (show ((sV).view.loc (V d (cV L) (jV L)) ↦[(sV).view.set]{fullShare} _ : sProp 𝕄) = (V d (cV L) (jV L)).loc cc1_scratch0 ↦{fullShare} _ by rw [hs])); iexact H
    · ipureintro; intro y
      refine (congrFun (View.write_whole_univ (Val := Elt Ideal) cc1_scratch0 f _) y).trans ?_
      obtain ⟨e0, e1, e2⟩ := tBlk_emb (inb := inb) hoff y
      show BitVec.ofNat 32 (rk (8 * (((tBlk off inb).view.emb y : S16x256x8.Idx) 0).val + (((tBlk off inb).view.emb y : S16x256x8.Idx) 2).val) (((tBlk off inb).view.emb y : S16x256x8.Idx) 1).val) = _
      rw [e0, e1, e2]
  isplitl [Ht']; · iexact Ht'
  isplitl [Hsem]; · iexact Hsem
  iexists _; isplitr
  swap; · iexact HO
  ipureintro; intro p hp
  rcases Finset.mem_insert.mp hp with hp | hp
  · exact .inr (hp ▸ rfl)
  · exact hW' p hp

theorem row_start (T : ℕ → ℕ) : rowAt d L (ones 1024) ⊢ rowAt d L (cut T 0) := by
  iintro ⟨%f, %hf, H⟩
  iexists f; isplitr
  · ipureintro; exact cut_zero hf
  · iexact H

end Steps

end Cert.Proof.Scatter

end
-- ==== Proof.TileRun.lean ====
/-
  The whole task of one tile: the steps of Tile.lean one after another, through the parts the program is printed in. From
  a share of the table of ranks and four rows of the output it leaves the rows at the scatter's result.
-/
module

public import proofs.«01_k».proof.Proof.Tile

@[expose] public section

noncomputable section

namespace Cert.Proof.Scatter

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "tV" => (Memref.whole Cert.KernelIdeal.main_v0_scv : Memref Cert.KernelIdeal.sig Kind.scVector Space.hbm Cert.KernelIdeal.S16x256x8 EltTy.i32)
local notation "oV" => (Memref.whole Cert.KernelIdeal.main_v1_scv : Memref Cert.KernelIdeal.sig Kind.scVector Space.hbm Cert.KernelIdeal.S128x1024 EltTy.i32)
local notation "sV" => (Memref.whole Cert.KernelIdeal.cc1_scratch0 : Memref Cert.KernelIdeal.sig Kind.scVector Space.vmem Cert.KernelIdeal.S256x8 EltTy.i32)
local notation "rV" => (Memref.whole Cert.KernelIdeal.cc1_scratch1 : Memref Cert.KernelIdeal.sig Kind.scVector Space.vmem Cert.KernelIdeal.S1024 EltTy.i32)

/-! ## Where a tile works -/

/-- The first of the four rows of a tile. -/
abbrev row0 (L : grid1.Coords) : ℕ := 8 * (L 1).val + 4 * (L 0).val

theorem off1_eq : ∀ L : grid1.Coords, k1_off1 L = ![(L 1).val, 0, 0] := by decide +kernel
theorem off2_eq : ∀ L : grid1.Coords, k1_off2 L = ![row0 L, 0] := by decide +kernel
theorem off3_eq : ∀ L : grid1.Coords, k1_off3 L = ![row0 L + 1, 0] := by decide +kernel
theorem off4_eq : ∀ L : grid1.Coords, k1_off4 L = ![row0 L + 2, 0] := by decide +kernel
theorem off5_eq : ∀ L : grid1.Coords, k1_off5 L = ![row0 L + 3, 0] := by decide +kernel

/-- The first part computes the tile's place: its last value is the tile's first column in its block. -/
theorem part1_eq (L : grid1.Coords) (a2 ha2 a3 ha3 a4 ha4 a5 ha5 s0 s1 s2 s3 s4) :
    ∃ u w : BitVec 32, k1_part1 (F := Ideal) L a2 ha2 a3 ha3 a4 ha4 a5 ha5 s0 s1 s2 s3 s4
        = pure ⟨k1_pay2, k1_pay3, iota .scVector S16 32 [0] iota_S16_d0_w32_scVector, u, w⟩ ∧ w.toNat = 4 * (L 0).val := by
  rw [k1_part1_eq_skeleton]
  refine ⟨_, _, rfl, ?_⟩
  clear a2 ha2 a3 ha3 a4 ha4 a5 ha5 s0 s1 s2 s3 s4
  revert L
  decide +kernel

abbrev cell (d : Dev nD) (L : grid1.Coords) (s : DmaSem sig) : GSem nD τ sig := (V d (cV L) (jV L), .dma s)

section Body

variable (d : Dev nD) (L : grid1.Coords) (rk : ℕ → ℕ → ℕ)

local notation "TP" => TpuEff nD τ sig (Elt Ideal) Λ₀ (Proc.scVector (cV L) (jV L))

/-- What follows a part of the program, closed while the part runs. -/
@[irreducible] def after {α β : Type} (k : β → Prog TP α) (Q : α → sProp 𝕄) (b : β) : sProp 𝕄 :=
  wp frame (wpE (defs₀ (F := Ideal)) 𝒱₀ (V d (cV L) (jV L)) none) Set.univ (k b) Q

theorem after_eq {α β : Type} (k : β → Prog TP α) (Q : α → sProp 𝕄) (b : β) :
    after d L k Q b = wp frame (wpE (defs₀ (F := Ideal)) 𝒱₀ (V d (cV L) (jV L)) none) Set.univ (k b) Q := by
  unfold after; rfl

theorem wp_part {α β : Type} (p : Prog TP β) (k : β → Prog TP α) (Q : α → sProp 𝕄) :
    wp frame (wpE (defs₀ (F := Ideal)) 𝒱₀ (V d (cV L) (jV L)) none) Set.univ (p >>= k) Q
      = wp frame (wpE (defs₀ (F := Ideal)) 𝒱₀ (V d (cV L) (jV L)) none) Set.univ p (after d L k Q) := by
  rw [wp_bind]; congr 1; funext b; rw [after_eq]

/-- A gather at the end of a part. -/
theorem step_gather_last {rk : ℕ → ℕ → ℕ} (hrk : ∀ b t, rk b t < 1024) {g b : ℕ} {w u : BitVec 32} (hb : 8 * g + u.toNat = b)
    (h : ∀ a x, (gix w u a x).toNat < S256x8.size a) (hl : (sV).view.Loads) (Q : Vec Ideal S16 .i32 → sProp 𝕄) :
    blkAt d L (block rk g)
      ⊢ iprop((∀ v, ⌜gath (rk b) w.toNat v⌝ -∗ blkAt d L (block rk g) -∗ Q v)
        -∗ wp frame (wpE (defs₀ (F := Ideal)) 𝒱₀ (V d (cV L) (jV L)) none) Set.univ (SparseCore.vectorLoadIdx (sV) (gix w u) h hl) Q) := by
  have e : (SparseCore.vectorLoadIdx (sV) (gix w u) h hl : Prog TP (Vec Ideal S16 .i32)) = (SparseCore.vectorLoadIdx (sV) (gix w u) h hl >>= fun v => pure v) := (bind_pure _).symm
  rw [e]
  iintro Hb Hk
  iapply (step_gather d L Q hrk hb h hl _) $$ Hb
  iintro %v %hv Hb
  rw [wp_pure]; imodintro
  iapply Hk
  · ipureintro; exact hv
  · iexact Hb

attribute [local irreducible] Prog.bind Prog.lift SparseCore.vectorLoadIdx SparseCore.vectorStoreIdx k1_part2 k1_part3 k1_part4 k1_part5 k1_part6 k1_part7 k1_part8 k1_part9 k1_part10 k1_part11 k1_part12 k1_part13 k1_part14 k1_part15 k1_part16 k1_part17 k1_part18 k1_part19 k1_part20 k1_part21 k1_part22 k1_part23 k1_part24 k1_part25 k1_part26

set_option maxHeartbeats 4000000 in
theorem body (hrk : ∀ b t, rk b t < 1024) (q : PosShare TreeShare) (fo : Buf E (oLoc d)) (O : CellTallies nD τ sig (HIx 1)) (W : Waits sig (HIx 1)) :
    iprop(□ Transfers.MayWaits (V d (cV L) (jV L)) (default : HIx 1) O
        ∗ blkAt d L (fun _ => True) ∗ rowAt d L (ones 0) ∗ (rLoc d ↦{q} tbl rk)
        ∗ ((oLoc d ↦[rowSet (row0 L)]{fullShare} fo) ∗ (oLoc d ↦[rowSet (row0 L + 1)]{fullShare} fo)
          ∗ (oLoc d ↦[rowSet (row0 L + 2)]{fullShare} fo) ∗ (oLoc d ↦[rowSet (row0 L + 3)]{fullShare} fo))
        ∗ (semVal (cell d L cc1_scoped0.sem) 0 ∗ semVal (cell d L cc1_scoped1.sem) 0 ∗ semVal (cell d L cc1_scoped2.sem) 0
          ∗ semVal (cell d L cc1_scoped3.sem) 0 ∗ semVal (cell d L cc1_scoped4.sem) 0) ∗ owing d L O W)
      ⊢ wp frame (wpE (defs₀ (F := Ideal)) 𝒱₀ (V d (cV L) (jV L)) none) Set.univ
          (cc1_sc_scatter (F := Ideal) L tV (Memref.isWhole_whole _) oV (Memref.isWhole_whole _) sV (Memref.isWhole_whole _) rV (Memref.isWhole_whole _)
            cc1_scoped0 cc1_scoped1 cc1_scoped2 cc1_scoped3 cc1_scoped4)
          fun _ => iprop(blkAt d L (fun _ => True) ∗ rowAt d L (ones 0) ∗ (rLoc d ↦{q} tbl rk)
            ∗ ((oLoc d ↦[rowSet (row0 L)]{fullShare} out rk) ∗ (oLoc d ↦[rowSet (row0 L + 1)]{fullShare} out rk)
              ∗ (oLoc d ↦[rowSet (row0 L + 2)]{fullShare} out rk) ∗ (oLoc d ↦[rowSet (row0 L + 3)]{fullShare} out rk))
            ∗ (semVal (cell d L cc1_scoped0.sem) 0 ∗ semVal (cell d L cc1_scoped1.sem) 0 ∗ semVal (cell d L cc1_scoped2.sem) 0
              ∗ semVal (cell d L cc1_scoped3.sem) 0 ∗ semVal (cell d L cc1_scoped4.sem) 0) ∗ owing d L O W) := by
  rw [cc1_sc_scatter_eq_skeleton]; unfold cc1_sc_scatter_skel
  obtain ⟨u, w, hp1, hw⟩ := part1_eq L tV (Memref.isWhole_whole _) oV (Memref.isWhole_whole _) sV (Memref.isWhole_whole _) rV (Memref.isWhole_whole _)
            cc1_scoped0 cc1_scoped1 cc1_scoped2 cc1_scoped3 cc1_scoped4
  have hL : (L 0).val < 2 := (L 0).isLt
  have hc0 : (Scalar.addi w 0#32).toNat < 8 := by rw [add_row hw (by omega) 0 (by omega)]; omega
  have hc1 : (Scalar.addi w 1#32).toNat < 8 := by rw [add_row hw (by omega) 1 (by omega)]; omega
  have hc2 : (Scalar.addi w 2#32).toNat < 8 := by rw [add_row hw (by omega) 2 (by omega)]; omega
  have hc3 : (Scalar.addi w 3#32).toNat < 8 := by rw [add_row hw (by omega) 3 (by omega)]; omega
  have hb0 : 8 * (L 1).val + (Scalar.addi w 0#32).toNat = row0 L := by rw [add_row hw (by omega) 0 (by omega)]; rfl
  have hb1 : 8 * (L 1).val + (Scalar.addi w 1#32).toNat = row0 L + 1 := by rw [add_row hw (by omega) 1 (by omega)]; rfl
  have hb2 : 8 * (L 1).val + (Scalar.addi w 2#32).toNat = row0 L + 2 := by rw [add_row hw (by omega) 2 (by omega)]; rfl
  have hb3 : 8 * (L 1).val + (Scalar.addi w 3#32).toNat = row0 L + 3 := by rw [add_row hw (by omega) 3 (by omega)]; rfl
  iintro ⟨#Hmw, Hb, Hr, Ht, ⟨Ho0, Ho1, Ho2, Ho3⟩, ⟨Hs0, Hs1, Hs2, Hs3, Hs4⟩, HO⟩
  rw [wp_part d L]
  rw [k1_part27_eq_skeleton]; unfold k1_part27_skel
  rw [hp1, pure_bind]
  dsimp only
  rw [wp_part d L, k1_part2_eq_skeleton]; unfold k1_part2_skel
  dsimp only
  iapply (step_fetch d L _ rk O W (off1_eq L) q cc1_scoped0.sem _ _ _ _ _ _) $$ [Hb Ht Hs0 HO]
  · isplitr; · iexact Hmw
    isplitl [Hb]; · iexact Hb
    isplitl [Ht]; · iexact Ht
    isplitl [Hs0]; · iexact Hs0
    iexact HO
  iintro ⟨Hb, Ht, Hs0, HO⟩
  repeat (first
    | (rw [wp_pure]; imodintro; rw [after_eq]; dsimp only [k1_pay32])
    | (iapply (step_ones d L _ _ _ _ _ _ _) $$ Hr; iintro Hr)
    | (iapply (step_gather d L _ hrk hb0 _ _ _) $$ Hb; iintro %v %hv Hb; simp only [BitVec.reduceToNat] at hv)
    | (iapply (step_gather_last d L hrk hb0 _ _ _) $$ Hb; iintro %v %hv Hb; simp only [BitVec.reduceToNat] at hv; rw [after_eq]; dsimp only)
    | (iapply (step_scatter d L _ hv _ _ _) $$ Hr; iintro Hr; clear hv)
    | (iapply (step_scatter d L _ hv _ _ _) $$ [Hr]; (· iapply (row_start d L _); iexact Hr); iintro Hr; clear hv)
    | (iapply (step_check d L _ _ _); isplitr
       (· ipureintro; first
          | exact ok_scatter hv (hrk _)
          | exact ok_gather (by decide) hc0)
       iintro %hk)
    | (rw [wp_part d L, k1_part3_eq_skeleton]; unfold k1_part3_skel; dsimp only)
    | (rw [wp_part d L, k1_part4_eq_skeleton]; unfold k1_part4_skel; dsimp only)
    | (rw [wp_part d L, k1_part5_eq_skeleton]; unfold k1_part5_skel; dsimp only)
    | (rw [wp_part d L, k1_part6_eq_skeleton]; unfold k1_part6_skel; dsimp only)
    | (rw [wp_part d L, k1_part7_eq_skeleton]; unfold k1_part7_skel; dsimp only)
    | (rw [wp_part d L, k1_part8_eq_skeleton]; unfold k1_part8_skel; dsimp only))
  iapply (step_out d L _ rk O W (off2_eq L) fo cc1_scoped1.sem _ _ _ _ _ _) $$ [Hr Ho0 Hs1 HO]
  · isplitr; · iexact Hmw
    isplitl [Hr]; · iexact Hr
    isplitl [Ho0]; · iexact Ho0
    isplitl [Hs1]; · iexact Hs1
    iexact HO
  iintro ⟨Hr, Ho0, Hs1, HO⟩
  repeat (first
    | (rw [wp_pure]; imodintro; rw [after_eq]; dsimp only [k1_pay32])
    | (iapply (step_ones d L _ _ _ _ _ _ _) $$ Hr; iintro Hr)
    | (iapply (step_gather d L _ hrk hb1 _ _ _) $$ Hb; iintro %v %hv Hb; simp only [BitVec.reduceToNat] at hv)
    | (iapply (step_gather_last d L hrk hb1 _ _ _) $$ Hb; iintro %v %hv Hb; simp only [BitVec.reduceToNat] at hv; rw [after_eq]; dsimp only)
    | (iapply (step_scatter d L _ hv _ _ _) $$ Hr; iintro Hr; clear hv)
    | (iapply (step_scatter d L _ hv _ _ _) $$ [Hr]; (· iapply (row_start d L _); iexact Hr); iintro Hr; clear hv)
    | (iapply (step_check d L _ _ _); isplitr
       (· ipureintro; first
          | exact ok_scatter hv (hrk _)
          | exact ok_gather (by decide) hc1)
       iintro %hk)
    | (rw [wp_part d L, k1_part9_eq_skeleton]; unfold k1_part9_skel; dsimp only)
    | (rw [wp_part d L, k1_part10_eq_skeleton]; unfold k1_part10_skel; dsimp only)
    | (rw [wp_part d L, k1_part11_eq_skeleton]; unfold k1_part11_skel; dsimp only)
    | (rw [wp_part d L, k1_part12_eq_skeleton]; unfold k1_part12_skel; dsimp only)
    | (rw [wp_part d L, k1_part13_eq_skeleton]; unfold k1_part13_skel; dsimp only)
    | (rw [wp_part d L, k1_part14_eq_skeleton]; unfold k1_part14_skel; dsimp only))
  rw [← wp_part d L]; simp only [bind_assoc, pure_bind]
  rw [k1_part15_eq_skeleton]; unfold k1_part15_skel; simp only [bind_assoc, pure_bind]
  iapply (step_out d L _ rk O W (off3_eq L) fo cc1_scoped2.sem _ _ _ _ _ _) $$ [Hr Ho1 Hs2 HO]
  · isplitr; · iexact Hmw
    isplitl [Hr]; · iexact Hr
    isplitl [Ho1]; · iexact Ho1
    isplitl [Hs2]; · iexact Hs2
    iexact HO
  iintro ⟨Hr, Ho1, Hs2, HO⟩
  repeat (first
    | (rw [wp_pure]; imodintro; rw [after_eq]; dsimp only [k1_pay32])
    | (iapply (step_ones d L _ _ _ _ _ _ _) $$ Hr; iintro Hr)
    | (iapply (step_gather d L _ hrk hb2 _ _ _) $$ Hb; iintro %v %hv Hb; simp only [BitVec.reduceToNat] at hv)
    | (iapply (step_gather_last d L hrk hb2 _ _ _) $$ Hb; iintro %v %hv Hb; simp only [BitVec.reduceToNat] at hv; rw [after_eq]; dsimp only)
    | (iapply (step_scatter d L _ hv _ _ _) $$ Hr; iintro Hr; clear hv)
    | (iapply (step_scatter d L _ hv _ _ _) $$ [Hr]; (· iapply (row_start d L _); iexact Hr); iintro Hr; clear hv)
    | (iapply (step_check d L _ _ _); isplitr
       (· ipureintro; first
          | exact ok_scatter hv (hrk _)
          | exact ok_gather (by decide) hc2)
       iintro %hk)
    | (rw [wp_part d L, k1_part15_eq_skeleton]; unfold k1_part15_skel; dsimp only)
    | (rw [wp_part d L, k1_part16_eq_skeleton]; unfold k1_part16_skel; dsimp only)
    | (rw [wp_part d L, k1_part17_eq_skeleton]; unfold k1_part17_skel; dsimp only)
    | (rw [wp_part d L, k1_part18_eq_skeleton]; unfold k1_part18_skel; dsimp only)
    | (rw [wp_part d L, k1_part19_eq_skeleton]; unfold k1_part19_skel; dsimp only)
    | (rw [wp_part d L, k1_part20_eq_skeleton]; unfold k1_part20_skel; dsimp only)
    | (rw [wp_part d L, k1_part21_eq_skeleton]; unfold k1_part21_skel; dsimp only))
  iapply (step_out d L _ rk O W (off4_eq L) fo cc1_scoped3.sem _ _ _ _ _ _) $$ [Hr Ho2 Hs3 HO]
  · isplitr; · iexact Hmw
    isplitl [Hr]; · iexact Hr
    isplitl [Ho2]; · iexact Ho2
    isplitl [Hs3]; · iexact Hs3
    iexact HO
  iintro ⟨Hr, Ho2, Hs3, HO⟩
  repeat (first
    | (rw [wp_pure]; imodintro; rw [after_eq]; dsimp only [k1_pay32])
    | (iapply (step_ones d L _ _ _ _ _ _ _) $$ Hr; iintro Hr)
    | (iapply (step_gather d L _ hrk hb3 _ _ _) $$ Hb; iintro %v %hv Hb; simp only [BitVec.reduceToNat] at hv)
    | (iapply (step_gather_last d L hrk hb3 _ _ _) $$ Hb; iintro %v %hv Hb; simp only [BitVec.reduceToNat] at hv; rw [after_eq]; dsimp only)
    | (iapply (step_scatter d L _ hv _ _ _) $$ Hr; iintro Hr; clear hv)
    | (iapply (step_scatter d L _ hv _ _ _) $$ [Hr]; (· iapply (row_start d L _); iexact Hr); iintro Hr; clear hv)
    | (iapply (step_check d L _ _ _); isplitr
       (· ipureintro; first
          | exact ok_scatter hv (hrk _)
          | exact ok_gather (by decide) hc3)
       iintro %hk)
    | (rw [wp_part d L, k1_part22_eq_skeleton]; unfold k1_part22_skel; dsimp only)
    | (rw [wp_part d L, k1_part23_eq_skeleton]; unfold k1_part23_skel; dsimp only)
    | (rw [wp_part d L, k1_part24_eq_skeleton]; unfold k1_part24_skel; dsimp only)
    | (rw [wp_part d L, k1_part25_eq_skeleton]; unfold k1_part25_skel; dsimp only)
    | (rw [wp_part d L, k1_part26_eq_skeleton]; unfold k1_part26_skel; dsimp only))
  iapply (step_out d L _ rk O W (off5_eq L) fo cc1_scoped4.sem _ _ _ _ _ _) $$ [Hr Ho3 Hs4 HO]
  · isplitr; · iexact Hmw
    isplitl [Hr]; · iexact Hr
    isplitl [Ho3]; · iexact Ho3
    isplitl [Hs4]; · iexact Hs4
    iexact HO
  iintro ⟨Hr, Ho3, Hs4, HO⟩
  rw [wp_pure]; imodintro
  isplitl [Hb]
  · icases Hb with ⟨%f, -, Hb⟩
    iexists f; isplitr
    · ipureintro; trivial
    · iexact Hb
  isplitl [Hr]; · iexact Hr
  isplitl [Ht]; · iexact Ht
  isplitl [Ho0 Ho1 Ho2 Ho3]
  · isplitl [Ho0]; · iexact Ho0
    isplitl [Ho1]; · iexact Ho1
    isplitl [Ho2]; · iexact Ho2
    iexact Ho3
  isplitr [HO]
  · isplitl [Hs0]; · iexact Hs0
    isplitl [Hs1]; · iexact Hs1
    isplitl [Hs2]; · iexact Hs2
    isplitl [Hs3]; · iexact Hs3
    iexact Hs4
  iexact HO

end Body

end Cert.Proof.Scatter

end
-- ==== Proof.TileObl.lean ====
/-
  The SparseCore call as the launch theorem takes it: what each handshake carries (a tile gets a share of the table of
  ranks and its four rows of the output, and brings the rows back), the tile's obligation, and how the arrays are dealt
  to the tiles.
-/
module

public import proofs.«01_k».proof.Proof.TileRun

@[expose] public section

noncomputable section

namespace Cert.Proof.Scatter

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "tV" => (Memref.whole Cert.KernelIdeal.main_v0_scv : Memref Cert.KernelIdeal.sig Kind.scVector Space.hbm Cert.KernelIdeal.S16x256x8 EltTy.i32)
local notation "oV" => (Memref.whole Cert.KernelIdeal.main_v1_scv : Memref Cert.KernelIdeal.sig Kind.scVector Space.hbm Cert.KernelIdeal.S128x1024 EltTy.i32)
local notation "sV" => (Memref.whole Cert.KernelIdeal.cc1_scratch0 : Memref Cert.KernelIdeal.sig Kind.scVector Space.vmem Cert.KernelIdeal.S256x8 EltTy.i32)
local notation "rV" => (Memref.whole Cert.KernelIdeal.cc1_scratch1 : Memref Cert.KernelIdeal.sig Kind.scVector Space.vmem Cert.KernelIdeal.S1024 EltTy.i32)

/-! ## Shares of the table: one half after another -/

/-- What is left of the full share after `n` halves were given. -/
def rest : ℕ → PosShare TreeShare
  | 0 => fullShare
  | n + 1 => (rest n).right

/-- The half given to number `n`. -/
abbrev part (n : ℕ) : PosShare TreeShare := (rest n).left

theorem deal {ℓ : Loc nD τ sig} (f : Buf E ℓ) (n : ℕ) :
    (ℓ ↦{fullShare} f : sProp 𝕄) ⊢ iprop((bigSep (Finset.range n) fun i => ℓ ↦{part i} f) ∗ ℓ ↦{rest n} f) := by
  induction n with
  | zero =>
    rw [Finset.range_zero, bigSep_empty]
    iintro H; isplitr
    · iempintro
    · iexact H
  | succ n ih =>
    rw [Finset.range_add_one, SparseCore.bigSep_insert' Finset.notMem_range_self]
    refine ih.trans ?_
    iintro ⟨Hp, Hr⟩
    ihave H := (pointsTo_share (PosShare.mem_left_op_right (rest n))).1 $$ Hr
    icases H with ⟨Hl, Hr⟩
    isplitr [Hr]
    · isplitl [Hl]; · iexact Hl
      iexact Hp
    · iexact Hr

/-! ## What the handshakes carry -/

variable (rk : ℕ → ℕ → ℕ) (f₀ : (d : Dev nD) → Buf E (oLoc d))

/-- Four rows of the output from row `b` on. -/
abbrev rows (d : Dev nD) (b : ℕ) (f : Buf E (oLoc d)) : sProp 𝕄 :=
  iprop((oLoc d ↦[rowSet b]{fullShare} f) ∗ (oLoc d ↦[rowSet (b + 1)]{fullShare} f)
    ∗ (oLoc d ↦[rowSet (b + 2)]{fullShare} f) ∗ (oLoc d ↦[rowSet (b + 3)]{fullShare} f))

/-- What tile `i` of core `c` gets and brings back. -/
abbrev gets (d : Dev nD) (c i : ℕ) (f : Buf E (oLoc d)) : sProp 𝕄 :=
  iprop((rLoc d ↦{part (2 * i + c)} (tbl rk : Buf E (rLoc d))) ∗ rows d (8 * i + 4 * c) f)

def P : K.Pay (nD := nD) (Val := E) (Name := ℕ) (U := UU) where
  st := fun q d c => match q with | 0 => bigSep Finset.univ fun i : Fin (K.nSub 0) => gets rk d c.val i.val (f₀ d)
  dn := fun q d c => match q with | 0 => bigSep Finset.univ fun i : Fin (K.nSub 0) => gets rk d c.val i.val (out rk)
  go := fun q d c i => match q with | 0 => gets rk d c.val i.val (f₀ d)
  td := fun q d c i => match q with | 0 => gets rk d c.val i.val (out rk)
  x := fun _ _ => iprop(emp)

instance P_storable : (P rk f₀).IsStorable where
  st q d c := match q with
    | 0 => (inferInstance : BI.Storable (upEmb : UEmb _ 𝕄) (bigSep Finset.univ fun i : Fin (K.nSub 0) => gets rk d c.val i.val (f₀ d)))
  dn q d c := match q with
    | 0 => (inferInstance : BI.Storable (upEmb : UEmb _ 𝕄) (bigSep Finset.univ fun i : Fin (K.nSub 0) => gets rk d c.val i.val (out rk)))
  go q d c i := match q with | 0 => (inferInstance : BI.Storable (upEmb : UEmb _ 𝕄) (gets rk d c.val i.val (f₀ d)))
  td q d c i := match q with | 0 => (inferInstance : BI.Storable (upEmb : UEmb _ 𝕄) (gets rk d c.val i.val (out rk)))

theorem vecSplit : K.VecSplit' (P rk f₀) 0 := by
  intro d c
  show (bigSep Finset.univ fun i : Fin (K.nSub 0) => gets rk d c.val i.val (f₀ d)) ⊢ |={Set.univ}=> iprop(
      (bigSep Finset.univ fun i : Fin (K.nSub 0) => gets rk d c.val i.val (f₀ d))
      ∗ ((bigSep Finset.univ fun i : Fin (K.nSub 0) => gets rk d c.val i.val (out rk))
          -∗ (bigSep Finset.univ fun i : Fin (K.nSub 0) => gets rk d c.val i.val (out rk))))
  iintro H; imodintro
  isplitl [H]; · iexact H
  iintro H; iexact H

/-! ## The tile's own cells and buffers -/

section Tile

variable (d : Dev nD) (L : grid1.Coords)

theorem cell_ne {a b : DmaSems sig S_} (h : a.sem ≠ b.sem) : cell d L a.sem ≠ cell d L b.sem := fun e =>
  h (SemLoc.dma.inj (Prod.mk.inj e).2)

theorem cell_own {a : DmaSems sig S_} (h : (SemLoc.dma a.sem : SemLoc sig).isScoped .scVector = true) :
    cell d L a.sem ∈ ownCells (V d (cV L) (jV L)) := (mem_ownCells (g := cell d L a.sem)).mpr ⟨rfl, h⟩

theorem ownSems0_V :
    (ownSems0 (V d (cV L) (jV L)) : sProp 𝕄)
      = iprop(semVal (cell d L cc1_scoped0.sem) 0 ∗ semVal (cell d L cc1_scoped1.sem) 0 ∗ semVal (cell d L cc1_scoped2.sem) 0
          ∗ semVal (cell d L cc1_scoped3.sem) 0 ∗ semVal (cell d L cc1_scoped4.sem) 0
          ∗ bigSep ((((((ownCells (V d (cV L) (jV L))).erase (cell d L cc1_scoped0.sem)).erase (cell d L cc1_scoped1.sem)).erase (cell d L cc1_scoped2.sem)).erase
              (cell d L cc1_scoped3.sem)).erase (cell d L cc1_scoped4.sem)) fun g => semVal g 0) := by
  unfold SparseCore.Cfg.ownSems0
  rw [SparseCore.bigSep_erase' (cell_own d L (a := cc1_scoped0) (by decide)),
    SparseCore.bigSep_erase' (Finset.mem_erase.mpr ⟨cell_ne d L (by decide), cell_own d L (a := cc1_scoped1) (by decide)⟩),
    SparseCore.bigSep_erase' (Finset.mem_erase.mpr ⟨cell_ne d L (by decide), Finset.mem_erase.mpr ⟨cell_ne d L (by decide), cell_own d L (a := cc1_scoped2) (by decide)⟩⟩),
    SparseCore.bigSep_erase' (Finset.mem_erase.mpr ⟨cell_ne d L (by decide), Finset.mem_erase.mpr ⟨cell_ne d L (by decide), Finset.mem_erase.mpr ⟨cell_ne d L (by decide),
      cell_own d L (a := cc1_scoped3) (by decide)⟩⟩⟩),
    SparseCore.bigSep_erase' (Finset.mem_erase.mpr ⟨cell_ne d L (by decide), Finset.mem_erase.mpr ⟨cell_ne d L (by decide), Finset.mem_erase.mpr ⟨cell_ne d L (by decide),
      Finset.mem_erase.mpr ⟨cell_ne d L (by decide), cell_own d L (a := cc1_scoped4) (by decide)⟩⟩⟩⟩)]

theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

theorem tile_body {b : ℕ} (hb : row0 L = b) (hF : K.Facts) (hrk : ∀ b t, rk b t < 1024) (q : PosShare TreeShare) (O : CellTallies nD τ sig (HIx 1)) (W : Waits sig (HIx 1)) (hO : ∀ g, O g none = 0) :
    iprop(levAts K.L K.lev ∗ emp
        ∗ ((rLoc d ↦{q} (tbl rk : Buf E (rLoc d))) ∗ rows d b (f₀ d))
        ∗ scopedBufs (V d (cV L) (jV L)) ∗ scopedSems0 (V d (cV L) (jV L)) ∗ owes (V d (cV L) (jV L)) O W)
      ⊢ wp frame (wpE (defs₀ (F := Ideal)) 𝒱₀ (V d (cV L) (jV L)) none) Set.univ
          (cc1_sc_scatter (F := Ideal) L tV (Memref.isWhole_whole _) oV (Memref.isWhole_whole _) sV (Memref.isWhole_whole _) rV (Memref.isWhole_whole _)
            cc1_scoped0 cc1_scoped1 cc1_scoped2 cc1_scoped3 cc1_scoped4)
          fun _ => iprop(((rLoc d ↦{q} (tbl rk : Buf E (rLoc d))) ∗ rows d b (out rk))
            ∗ scopedBufs (V d (cV L) (jV L)) ∗ scopedSems0 (V d (cV L) (jV L))
            ∗ ∃ W', ⌜∀ p ∈ W', p ∈ W ∨ p.2 = none⌝ ∗ owes (V d (cV L) (jV L)) O W') := by
  subst hb
  rw [K.scopedBufs_V hF d (cV L) (jV L), SparseCore.Cfg.scopedSems0_V (Val := E) d (cV L) (jV L), ownSems0_V, ownBufs_V]
  iintro ⟨#Hlv, -, ⟨Ht, Ho⟩, ⟨⟨%fs, Hs⟩, ⟨%fr, Hr⟩, Hbufs⟩, ⟨H0, H1, H2, H3, H4, Hsems⟩, HO⟩
  ihave #Hmw := (show levAts K.L K.lev ⊢ Transfers.MayWaits (V d (cV L) (jV L)) (default : HIx 1) O from
    K.mayWaits_none (thr := V d (cV L) (jV L)) hO) $$ Hlv
  iapply (wp_wand frame (wpE (defs₀ (F := Ideal)) 𝒱₀ (V d (cV L) (jV L)) none) Set.univ) $$ [Hs Hr Ht Ho H0 H1 H2 H3 H4 HO]
  · iapply (body d L rk hrk q (f₀ d) O W)
    isplitr; · iexact Hmw
    isplitl [Hs]
    · iexists fs; isplitr
      · ipureintro; trivial
      · iexact Hs
    isplitl [Hr]
    · iexists fr; isplitr
      · ipureintro; intro y hy; exact absurd hy (Nat.not_lt_zero _)
      · iexact Hr
    isplitl [Ht]; · iexact Ht
    isplitl [Ho]; · iexact Ho
    isplitr [HO]
    · isplitl [H0]; · iexact H0
      isplitl [H1]; · iexact H1
      isplitl [H2]; · iexact H2
      isplitl [H3]; · iexact H3
      iexact H4
    iexists W; isplitr
    · ipureintro; exact fun p hp => .inl hp
    · iexact HO
  iintro %_ ⟨⟨%gs, -, Hs⟩, ⟨%gr, -, Hr⟩, Ht, Ho, ⟨H0, H1, H2, H3, H4⟩, HO⟩
  isplitl [Ht Ho]
  · isplitl [Ht]; · iexact Ht
    iexact Ho
  isplitl [Hs Hr Hbufs]
  · isplitl [Hs]; · iexists gs; iexact Hs
    isplitl [Hr]; · iexists gr; iexact Hr
    iexact Hbufs
  isplitl [H0 H1 H2 H3 H4 Hsems]
  · isplitl [H0]; · iexact H0
    isplitl [H1]; · iexact H1
    isplitl [H2]; · iexact H2
    isplitl [H3]; · iexact H3
    isplitl [H4]; · iexact H4
    iexact Hsems
  iexact HO

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := Ideal) (.scVector c s) 1 ()
      = SparseCore.onTile hcore1 hsub1 (fun c s => cc1_sc_scatter (F := Ideal) (coordsV c s)
          tV (Memref.isWhole_whole _) oV (Memref.isWhole_whole _) sV (Memref.isWhole_whole _) rV (Memref.isWhole_whole _)
          cc1_scoped0 cc1_scoped1 cc1_scoped2 cc1_scoped3 cc1_scoped4) ⟨⟩ c s := rfl

/-- Waits on local cells are among those the launch theorem allows. -/
theorem local_waits {thr : Thread nD τ} {A B C : sProp 𝕄} {O : CellTallies nD τ sig (HIx 1)} {W : Waits sig (HIx 1)} {X : HIx 1 → Prop} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ X p.2⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : K.Facts) (hrk : ∀ b t, rk b t < 1024) : K.TileObl D 𝒱 (P rk f₀) v₀ 0 := by
  intro d c i O W hO _ _
  simp only [show (P rk f₀).ox = fun _ _ => 0 from rfl, add_zero]
  have hci : (K.core 0 c).val < grid1.bound 0 ∧ (K.sub 0 i).val < grid1.bound 1 := ⟨c.isLt, i.isLt⟩
  change _ ⊢ wp _ _ _ (Pipeline.liftProg (defs₀ (F := Ideal) (.scVector (K.core 0 c) (K.sub 0 i)) 1 ())) _
  refine BI.Entails.trans ?_ (Pipeline.wp_liftProg D (Pipeline.defs_kernel pcfgs defs₀) 𝒱₀ _ Set.univ none _ _)
  rw [defs₀_vector]; simp only [SparseCore.onTile, hci, and_self, ↓reduceDIte]
  have hrow : row0 (coordsV ⟨_, hci.1⟩ ⟨_, hci.2⟩) = 8 * i.val + 4 * c.val := rfl
  have h := (tile_body rk f₀ d (coordsV ⟨_, hci.1⟩ ⟨_, hci.2⟩) hrow hF hrk (part (2 * i.val + c.val)) O W hO).trans
    (wp_mono frame (wpE (defs₀ (F := Ideal)) 𝒱₀ _ none) Set.univ fun _ => local_waits (X := SparseCore.Cfg.Blocks.blk 0))
  have ec : cV (coordsV ⟨(K.core 0 c).val, hci.1⟩ ⟨(K.sub 0 i).val, hci.2⟩) = K.core 0 c := rfl
  have ej : jV (coordsV ⟨(K.core 0 c).val, hci.1⟩ ⟨(K.sub 0 i).val, hci.2⟩) = K.sub 0 i := rfl
  rw [show (P rk f₀).go 0 d c i = gets rk d c.val i.val (f₀ d) from rfl, show (P rk f₀).td 0 d c i = gets rk d c.val i.val (out rk) from rfl,
    show (P rk f₀).x 0 (V d (K.core 0 c) (K.sub 0 i)) = iprop(emp) from rfl]
  generalize cc1_sc_scatter (F := Ideal) (coordsV ⟨(K.core 0 c).val, hci.1⟩ ⟨(K.sub 0 i).val, hci.2⟩)
          tV (Memref.isWhole_whole _) oV (Memref.isWhole_whole _) sV (Memref.isWhole_whole _) rV (Memref.isWhole_whole _)
          cc1_scoped0 cc1_scoped1 cc1_scoped2 cc1_scoped3 cc1_scoped4 = p at h ⊢
  exact h

end Tile

/-! ## The arrays dealt to the tiles -/

/-- The tiles: cores times subcores. -/
abbrev Tl : Type := Fin 2 × Fin 16

theorem rows_disjoint {J : Type} [Fintype J] (g : J → ℕ) (hg : Function.Injective g) :
    ∀ i ∈ (Finset.univ : Finset J), ∀ j ∈ (Finset.univ : Finset J), i ≠ j → Disjoint (rowSet (g i)) (rowSet (g j)) := fun i _ j _ h =>
  Finset.disjoint_left.mpr fun y hy hy' => h (hg ((Finset.mem_filter.mp hy).2.symm.trans (Finset.mem_filter.mp hy').2))

/-- Row `k` of tile `(c, i)`. -/
abbrev rowOf (p : Tl × Fin 4) : ℕ := 8 * p.1.2.val + 4 * p.1.1.val + p.2.val

theorem rowOf_inj : Function.Injective rowOf := by
  rintro ⟨⟨c, i⟩, k⟩ ⟨⟨c', i'⟩, k'⟩ h
  have h : 8 * i.val + 4 * c.val + k.val = 8 * i'.val + 4 * c'.val + k'.val := h
  have := c.isLt; have := c'.isLt; have := k.isLt; have := k'.isLt
  obtain rfl : i = i' := Fin.ext (by omega)
  obtain rfl : c = c' := Fin.ext (by omega)
  obtain rfl : k = k' := Fin.ext (by omega)
  rfl

theorem rows_cover : (Finset.univ : Finset (Tl × Fin 4)).biUnion (fun p => rowSet (rowOf p)) = Finset.univ := by
  refine Finset.eq_univ_iff_forall.mpr fun y => Finset.mem_biUnion.mpr ?_
  have hy : (y 0).val < 128 := (y 0).isLt
  exact ⟨((⟨(y 0).val / 4 % 2, by omega⟩, ⟨(y 0).val / 8, by omega⟩), ⟨(y 0).val % 4, by omega⟩), Finset.mem_univ _,
    Finset.mem_filter.mpr ⟨Finset.mem_univ _, by show _ = 8 * ((y 0).val / 8) + 4 * ((y 0).val / 4 % 2) + (y 0).val % 4; omega⟩⟩

theorem out_rows (d : Dev nD) (f : Buf E (oLoc d)) :
    (oLoc d ↦{fullShare} f : sProp 𝕄) = bigSep Finset.univ fun c : Fin 2 => bigSep Finset.univ fun i : Fin 16 => rows d (8 * i.val + 4 * c.val) f := by
  have h := pointsTo_biUnion (Val := E) (Ix := HIx 1) (Name := ℕ) (U := UU) (Lvl := ℕ) (ℓ := oLoc d) (q := fullShare) (f := f) Finset.univ (fun p : Tl × Fin 4 => rowSet (rowOf p)) (rows_disjoint rowOf rowOf_inj)
  rw [rows_cover] at h
  refine h.trans ?_
  refine (bigSep_univ_prod (fun p : Tl × Fin 4 => (oLoc d ↦[rowSet (rowOf p)]{fullShare} f : sProp 𝕄))).trans ?_
  refine (bigSep_univ_prod (fun p : Tl => bigSep Finset.univ fun k : Fin 4 => (oLoc d ↦[rowSet (rowOf (p, k))]{fullShare} f : sProp 𝕄))).trans ?_
  refine bigSep_congr fun c _ => bigSep_congr fun i _ => ?_
  rw [show (Finset.univ : Finset (Fin 4)) = {0, 1, 2, 3} by decide, SparseCore.bigSep_insert' (by decide), SparseCore.bigSep_insert' (by decide),
    SparseCore.bigSep_insert' (by decide), bigSep_singleton]
  rfl

/-- The number of tile `(c, i)`. -/
def tileNo (p : Tl) : ℕ := 2 * p.2.val + p.1.val

theorem tileNo_inj : Function.Injective tileNo := by
  rintro ⟨c, i⟩ ⟨c', i'⟩ h
  have h : 2 * i.val + c.val = 2 * i'.val + c'.val := h
  have := c.isLt; have := c'.isLt
  obtain rfl : i = i' := Fin.ext (by omega)
  obtain rfl : c = c' := Fin.ext (by omega)
  rfl

theorem table_shares (d : Dev nD) (f : Buf E (rLoc d)) :
    (rLoc d ↦{fullShare} f : sProp 𝕄) ⊢ bigSep Finset.univ fun c : Fin 2 => bigSep Finset.univ fun i : Fin 16 => rLoc d ↦{part (2 * i.val + c.val)} f := by
  refine (deal f 32).trans (sep_elim_left.trans (Entails.of_eq ?_))
  rw [← bigSep_univ_prod (fun p : Fin 2 × Fin 16 => (rLoc d ↦{part (2 * p.2.val + p.1.val)} f : sProp 𝕄))]
  rw [show Finset.range 32 = Finset.univ.map ⟨tileNo, tileNo_inj⟩ by decide +kernel, bigSep_map]
  rfl

end Cert.Proof.Scatter

end
-- ==== Proof.KernelRun.lean ====
/-
  The kernel's run: @main on the TensorCore is the region that leaves the ranks, the SparseCore call that scatters zeros by
  them, and four host operations that compare the scattered array with zero; the launch theorem then gives the claim's run.
-/
module

public import proofs.«01_k».proof.Proof.TcRegion
public import proofs.«01_k».proof.Proof.TileObl

@[expose] public section

noncomputable section

namespace Cert.Proof.KernelRun

open Cert.KernelIdeal Cert.KernelIdeal.Gen Cert.Proof.Scatter Cert.Proof.Ranks
open Idealize.ShloMosaic
open Idealize.ShloMosaic.SparseCore (S V)
open Idealize.ShloMosaic.SparseCore.Cfg (HIx)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 1) (Elt Ideal) ℕ UU ℕ

variable (m : (ℓ : Loc nD τ sig) → Buf (Elt Ideal) ℓ) (ρ : Dev nD → PrngReg)

abbrev pay : K.Pay (nD := nD) (Val := E) (Name := ℕ) (U := UU) := P rank fun d => m (oLoc d)

abbrev adm : (p : Fin 1) → (pcfgs (F := Ideal) p).Adm := fun p => (cfgs p).toPCfg_adm

/-! ## The launch element of the ghost state -/

def u₀ : UU := (initOf K.hsCells K.hsToks,
  (initOf (Pipeline.cells (nD := nD) (τ := τ) (Pipeline.pin (pcfgs (F := Ideal)) adm) cellOf_inj)
    (Pipeline.launchToks (nD := nD) (τ := τ) (Pipeline.pin (pcfgs (F := Ideal)) adm) cellOf_inj), 1))

/-- What the launch deals each TensorCore for the region's staging. -/
abbrev G (d : Dev nD) : sProp 𝕄 :=
  iprop(Pipeline.cellsGhost (Pipeline.pin (pcfgs (F := Ideal)) adm) EP 0 d ∗ Pipeline.toksInit (Pipeline.pin (pcfgs (F := Ideal)) adm) EP 0 d)

theorem bigSep_emp' {I : Type} (s : Finset I) : (bigSep s fun _ => iprop(emp)) = (iprop(emp) : sProp 𝕄) := bigSep_emp_const s

theorem hu₀ : (ownU u₀ : sProp 𝕄)
    ⊢ |={Set.univ}=> iprop(BI.own (EH (initOf K.hsCells K.hsToks)) ∗ (bigSep Finset.univ G)
        ∗ bigSep Finset.univ fun thr : Thread nD τ => bigSep Finset.univ fun q : Fin 1 => (pay m).x q thr) := by
  unfold u₀
  iintro Hu
  ihave H := (ownU_pair (initOf K.hsCells K.hsToks) _) $$ Hu
  icases H with ⟨HH, HR⟩
  ihave H := (own_pair_emb (embR : Emb (UP × Counters) 𝕄) (initOf (Pipeline.cells (nD := nD) (τ := τ) (Pipeline.pin (pcfgs (F := Ideal)) adm) cellOf_inj)
    (Pipeline.launchToks (nD := nD) (τ := τ) (Pipeline.pin (pcfgs (F := Ideal)) adm) cellOf_inj)) (1 : Counters)) $$ HR
  icases H with ⟨HP, -⟩
  imod (Pipeline.fund_ghost (Pipeline.pin (pcfgs (F := Ideal)) adm) EP cellOf_inj) $$ HP with ⟨Hg, Ht⟩
  imodintro
  isplitl [HH]; · iexact HH
  isplitl [Hg Ht]
  · rw [bigSep_sep']
    isplitl [Hg]
    · iapply (Entails.of_eq (bigSep_congr fun (d : Dev nD) _ => bigSep_univ_of_subsingleton (Φ := fun p => Pipeline.cellsGhost (Pipeline.pin (pcfgs (F := Ideal)) adm) EP p d) (0 : Fin 1))); iexact Hg
    · iapply (Entails.of_eq (bigSep_congr fun (d : Dev nD) _ => bigSep_univ_of_subsingleton (Φ := fun p => Pipeline.toksInit (Pipeline.pin (pcfgs (F := Ideal)) adm) EP p d) (0 : Fin 1))); iexact Ht
  rw [show (bigSep Finset.univ fun thr : Thread nD τ => bigSep Finset.univ fun q : Fin 1 => (pay m).x q thr) = bigSep Finset.univ fun _ => iprop(emp) from
    bigSep_congr fun _ _ => bigSep_univ_of_subsingleton (0 : Fin 1), bigSep_emp']
  iempintro

/-! ## @main's arrays -/

abbrev rb (r : Ref sig .tc) : DevRef τ sig := Proc.devRef .tc r
abbrev cLoc (d : Dev nD) (r : Ref sig .tc) : Loc nD τ sig := (SparseCore.T d).loc r

theorem unscopedBufs_eq (d : Dev nD) (W : (b : Ref sig .tc) → Buf (Elt Ideal) ((d.tc : Thread nD τ).loc b)) :
    (unscopedBufs d W : sProp 𝕄) = iprop((xLoc d ↦{fullShare} W main_arg0) ∗ (rLoc d ↦{fullShare} W main_v0) ∗ (oLoc d ↦{fullShare} W main_v1)
      ∗ (cLoc d main_c ↦{fullShare} W main_c) ∗ (cLoc d main_v2 ↦{fullShare} W main_v2) ∗ (cLoc d main_v3 ↦{fullShare} W main_v3) ∗ (cLoc d main_v4 ↦{fullShare} W main_v4)) := by
  unfold unscopedBufs
  rw [show (Finset.univ.filter fun b : Ref sig .tc => ¬ b.isScoped) = {main_arg0, main_v0, main_v1, main_c, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The arrays the host operations touch. -/
abbrev S5 : Finset (DevRef τ sig) := {rb main_v1, rb main_c, rb main_v2, rb main_v3, rb main_v4}

theorem held_S5 (d : Dev nD) (W : Valuation τ sig (Elt Ideal)) :
    (held (SparseCore.T d) S5 W : sProp 𝕄) = iprop((oLoc d ↦{fullShare} W (rb main_v1)) ∗ (cLoc d main_c ↦{fullShare} W (rb main_c))
      ∗ (cLoc d main_v2 ↦{fullShare} W (rb main_v2)) ∗ (cLoc d main_v3 ↦{fullShare} W (rb main_v3)) ∗ (cLoc d main_v4 ↦{fullShare} W (rb main_v4))) := by
  unfold held S5
  rw [SparseCore.bigSep_insert' (by decide), SparseCore.bigSep_insert' (by decide), SparseCore.bigSep_insert' (by decide), SparseCore.bigSep_insert' (by decide),
    bigSep_singleton]

/-- The arrays after the SparseCore call. -/
def V1 (d : Dev nD) : Valuation τ sig (Elt Ideal) := Function.update (fun b => m (d, b)) (rb main_v1) (out rank : Buf (Elt Ideal) (oLoc d))

abbrev op1 : HloOp τ sig (Elt Ideal) := StableHlo.nullary main_c (constantI S_ 32 0#32)
abbrev op2 : HloOp τ sig (Elt Ideal) := StableHlo.unary main_c main_v2 (broadcastInDim S128x1024 ![] bcast_S_S128x1024 : (⟨S_, .i32⟩ : BufTy).Contents (Elt Ideal) → (⟨S128x1024, .i32⟩ : BufTy).Contents (Elt Ideal))
abbrev op3 : HloOp τ sig (Elt Ideal) := StableHlo.binary main_v1 main_v2 main_v3 (cmpi .ne : (⟨S128x1024, .i32⟩ : BufTy).Contents (Elt Ideal) → (⟨S128x1024, .i32⟩ : BufTy).Contents (Elt Ideal) → (⟨S128x1024, .i1⟩ : BufTy).Contents (Elt Ideal))
abbrev op4 : HloOp τ sig (Elt Ideal) := StableHlo.unary main_v3 main_v4 (id : (⟨S128x1024, .i1⟩ : BufTy).Contents (Elt Ideal) → (⟨S128x1024, .i1⟩ : BufTy).Contents (Elt Ideal))

/-- The result: where the scattered array is not zero. -/
def mask (y : S128x1024.Idx) : BitVec 1 := IntOp.cmpi .ne (out rank y) 0#32

theorem V5_res (d : Dev nD) : op4.result (op3.result (op2.result (op1.result (V1 m d)))) (rb main_v4) = (mask : Buf (Elt Ideal) (cLoc d main_v4)) := by
  rw [StableHlo.unary_result', StableHlo.binary_result', StableHlo.unary_result', StableHlo.nullary_result',
    StableHlo.unary_result_ne (h := show main_v1 ≠ main_v2 by decide), StableHlo.nullary_result_ne (h := show main_v1 ≠ main_c by decide)]
  unfold V1; rw [Function.update_self]; rfl

/-- What @main leaves the claims: the argument as it was, the result. -/
abbrev FIN (d : Dev nD) : sProp 𝕄 := iprop((xLoc d ↦{fullShare} m (xLoc d)) ∗ (cLoc d main_v4 ↦{fullShare} (mask : Buf (Elt Ideal) (cLoc d main_v4))))

theorem st0_intro (d : Dev nD) : iprop((rLoc d ↦{fullShare} (tbl rank : Buf (Elt Ideal) (rLoc d))) ∗ (oLoc d ↦{fullShare} m (oLoc d)))
    ⊢ (bigSep Finset.univ fun c : Fin (K.nCore 0) => (pay m).st 0 d c : sProp 𝕄) := by
  show _ ⊢ (bigSep Finset.univ fun c : Fin 2 => bigSep Finset.univ fun i : Fin 16 => gets rank d c.val i.val (m (oLoc d)) : sProp 𝕄)
  rw [bigSep_congr fun (c : Fin 2) _ => bigSep_sep' Finset.univ (fun i : Fin 16 => (rLoc d ↦{part (2 * i.val + c.val)} (tbl rank : Buf (Elt Ideal) (rLoc d)) : sProp 𝕄)) (fun i : Fin 16 => rows d (8 * i.val + 4 * c.val) (m (oLoc d))), bigSep_sep', out_rows]
  iintro ⟨Hr, Ho⟩
  isplitl [Hr]
  · iapply (table_shares d (tbl rank : Buf (Elt Ideal) (rLoc d))); iexact Hr
  · iexact Ho

theorem dn0_elim (d : Dev nD) : (bigSep Finset.univ fun c : Fin (K.nCore 0) => (pay m).dn 0 d c : sProp 𝕄)
    ⊢ (oLoc d ↦{fullShare} (out rank : Buf (Elt Ideal) (oLoc d))) := by
  show (bigSep Finset.univ fun c : Fin 2 => bigSep Finset.univ fun i : Fin 16 => gets rank d c.val i.val (out rank) : sProp 𝕄) ⊢ _
  rw [bigSep_congr fun (c : Fin 2) _ => bigSep_sep' Finset.univ (fun i : Fin 16 => (rLoc d ↦{part (2 * i.val + c.val)} (tbl rank : Buf (Elt Ideal) (rLoc d)) : sProp 𝕄)) (fun i : Fin 16 => rows d (8 * i.val + 4 * c.val) (out rank)), bigSep_sep', out_rows]
  iintro ⟨-, Ho⟩
  iexact Ho

/-- The TensorCore's handshake state is what the region takes of it, and the rest. -/
theorem tcSt_debts (d : Dev nD) : ∃ R : sProp 𝕄, K.tcSt EH d 0 = iprop(debts d ∗ R) := ⟨_, rfl⟩

theorem V1_ne (d : Dev nD) (r : Ref sig .tc) (h : r ≠ main_v1) : V1 m d (rb r) = m (cLoc d r) :=
  Function.update_of_ne (StableHlo.devRef_ne_of_ne h) _ _

theorem V1_o (d : Dev nD) : V1 m d (rb main_v1) = (out rank : Buf (Elt Ideal) (oLoc d)) := Function.update_self _ _ _

theorem hmain (κ : GSem nD τ sig → ℕ) (d : Dev nD) :
    iprop(K.ctx EH (pay m) κ ∗ K.tcSt EH d 0 ∗ K.tcRes m ρ d ∗ G d)
      ⊢ wp frame (wpE (K.defs D) 𝒱 (SparseCore.T d) none) Set.univ (main d)
          fun _ => iprop(K.tcSt EH d 1 ∗ FIN m d ∗ K.tcEnd d) := by
  unfold SparseCore.Cfg.tcRes SparseCore.Cfg.tcEnd
  rw [unscopedBufs_eq]
  simp only [main, wp_bind, wp_pure]
  iintro ⟨#Hctx, Hst, ⟨Hb, ⟨Hx, Hr, Ho, Hc, H2, H3, H4⟩, Hts, -⟩, ⟨Hg, Ht⟩⟩
  ihave Hlev := (SparseCore.Cfg.ctx_levAts κ) $$ Hctx
  obtain ⟨R, hR⟩ := tcSt_debts d
  ihave Hst' := (Entails.of_eq hR) $$ Hst
  icases Hst' with ⟨HO, HR⟩
  iapply (wp_call (fun d => m (rLoc d)) adm d _) $$ [Hlev Hb Hr HO Hg Ht HR Hx Ho Hc H2 H3 H4 Hts]
  isplitl [Hlev]; · iexact Hlev
  isplitl [Hb]; · iexact Hb
  isplitl [Hr]; · iexact Hr
  isplitl [HO]; · iexact HO
  isplitl [Hg]; · iexact Hg
  isplitl [Ht]; · iexact Ht
  iintro ⟨Hb, Hr, HO⟩
  ihave Hst := (Entails.of_eq hR.symm) $$ [HO HR]
  · isplitl [HO] <;> iassumption
  iapply (K.wp_run D 𝒱 (EH := EH) (P := pay m) κ d 0) $$ [Hst Hx Hr Ho Hb Hc H2 H3 H4 Hts]
  isplitr; · iexact Hctx
  isplitl [Hst]; · iexact Hst
  isplitl [Hr Ho]
  · iapply (st0_intro m d)
    isplitl [Hr] <;> iassumption
  iintro ⟨Hst, Hdn⟩
  ihave Ho := (dn0_elim m d) $$ Hdn
  iapply (wp_hlo_within 𝒱 (SparseCore.T d) none Set.univ (op := op1) (S := S5) (by decide) (V := V1 m d)) $$ [Hb Ho Hc H2 H3 H4]
  · isplitl [Hb]; · iexact Hb
    rw [held_S5, V1_o, V1_ne m d main_c (by decide), V1_ne m d main_v2 (by decide), V1_ne m d main_v3 (by decide), V1_ne m d main_v4 (by decide)]
    isplitl [Ho]; · iexact Ho
    isplitl [Hc]; · iexact Hc
    isplitl [H2]; · iexact H2
    isplitl [H3]; · iexact H3
    iexact H4
  iintro ⟨Hb, Hheld⟩
  rw [wp_ret]; imodintro
  iapply (wp_hlo_within 𝒱 (SparseCore.T d) none Set.univ (op := op2) (S := S5) (by decide) (V := op1.result (V1 m d))) $$ [Hb Hheld]
  · isplitl [Hb] <;> iassumption
  iintro ⟨Hb, Hheld⟩
  rw [wp_ret]; imodintro
  iapply (wp_hlo_within 𝒱 (SparseCore.T d) none Set.univ (op := op3) (S := S5) (by decide) (V := op2.result (op1.result (V1 m d)))) $$ [Hb Hheld]
  · isplitl [Hb] <;> iassumption
  iintro ⟨Hb, Hheld⟩
  rw [wp_ret]; imodintro
  iapply (wp_hlo_within 𝒱 (SparseCore.T d) none Set.univ (op := op4) (S := S5) (by decide) (V := op3.result (op2.result (op1.result (V1 m d))))) $$ [Hb Hheld]
  · isplitl [Hb] <;> iassumption
  iintro ⟨Hb, Hheld⟩
  rw [wp_ret]; imodintro; imodintro
  ihave Hh := (Entails.of_eq (held_S5 d _)) $$ Hheld
  icases Hh with ⟨-, -, -, -, H4⟩
  ihave H4 := (Entails.of_eq (congrArg (fun f => (cLoc d main_v4 ↦{fullShare} f : sProp 𝕄)) (V5_res m d))) $$ H4
  isplitl [Hst]; · iexact Hst
  isplitr [Hb Hts]
  · isplitl [Hx] <;> iassumption
  isplitl [Hb] <;> iassumption

def fq (d : Dev nD) (s' : Phys nD τ sig (Elt Ideal)) : Prop :=
  s'.mem.mem (xLoc d) = m (xLoc d) ∧ s'.mem.mem (cLoc d main_v4) = (mask : Buf (Elt Ideal) (cLoc d main_v4))

theorem hfin (d : Dev nD) (s' : Phys nD τ sig (Elt Ideal)) : iprop(FIN m d ∗ SI s') ⊢ (⌜fq m d s'⌝ : sProp 𝕄) := by
  iintro ⟨⟨Hx, H4⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := cLoc d main_v4) (I := Finset.univ) (q := fullShare) (f := (mask : Buf (Elt Ideal) (cLoc d main_v4)))) $$ [HSI H4]
  · isplitl [HSI] <;> iassumption
  icases H with %h2
  ipureintro; exact ⟨funext fun i => h1 i (Finset.mem_univ i), funext fun i => h2 i (Finset.mem_univ i)⟩

/-! ## The program's run and its claim -/

def QC : PUnit × MemSt nD τ sig (Elt Ideal) → Prop := fun r =>
  (∀ c : Dev nD, r.2.mem (xLoc c) = m (xLoc c) ∧ r.2.mem (cLoc c main_v4) = (mask : Buf (Elt Ideal) (cLoc c main_v4))) ∧ r.2.sem = fun _ => 0

theorem run_main : θ_run (Cert.KernelIdeal.defs (F := Ideal)) (Cert.KernelIdeal.threads (F := Ideal)) ⟨m, fun _ => 0, ρ⟩ (QC m) :=
  SparseCore.Cfg.θ_run_sc_quiescent (K := K) (D := D) (𝒱 := 𝒱) (EH := EH) (P := pay m) (A := ∅) facts v₀
    (fun q hq => match q with | 0 => nomatch hq)
    (fun q _ => match q with | 0 => tileObl rank (fun d => m (oLoc d)) facts rank_lt)
    (fun q _ => match q with | 0 => SparseCore.Cfg.VecSplit.of_plain (vecSplit rank fun d => m (oLoc d)))
    m ρ main G (FIN m) u₀ (sep_elim_left.trans (hu₀ m)) (hmain m ρ) (fq m) (hfin m) (QC m) (fun _ h hz => ⟨h, hz⟩)

/-- `Cert.quiescent_KernelIdeal`. -/
theorem frame : Cert.quiescent_KernelIdeal := fun m ρ _ =>
  (θ_run Cert.KernelIdeal.defs _ _).mono (fun _ h => ⟨fun c => (h.1 c).1, h.2⟩) (run_main m ρ)

end Cert.Proof.KernelRun

end
-- ==== Proof.RefLine.lean ====
/-
  The reference's @main as the list of its operations: a straight line on the TensorCore's arrays.
-/
module

public import proofs.«01_k».proof.Defs
public import proofs.«01_k».proof.Proof.Gen.ReferenceIdeal
public import Idealize.ShloMosaic.Adequacy
public import proofs.«01_k».proof.Proof.Spec
public import Idealize.ShloMosaic.Lib.StableHlo.RunHlo
public import Idealize.ShloMosaic.Lib.StableHlo.RunRead

@[expose] public section

noncomputable section

namespace Cert.Proof.Reference

open Cert.ReferenceIdeal Cert.ReferenceIdeal.Gen
open Idealize.ShloMosaic Idealize.ShloMosaic.StableHlo
open Idealize.SL.Sem

/-- What the run asks of an operation: it touches the TensorCore's arrays only, and determines what it writes. -/
def Plain (op : HloOp τ sig (Elt Ideal)) : Prop := op.bufs ⊆ tcRefs τ sig ∧ op.fresh = ∅

theorem plain_nullary {y : Ref sig .tc} (v) (hy) : Plain (nullary y v hy) := ⟨nullary_bufs_sub .., rfl⟩
theorem plain_unary {x y : Ref sig .tc} (f) (hx hy) : Plain (unary x y f hx hy) := ⟨unary_bufs_sub .., rfl⟩
theorem plain_binary {a b y : Ref sig .tc} (f) (ha hb hy) : Plain (binary a b y f ha hb hy) := ⟨binary_bufs_sub .., rfl⟩
theorem plain_reshape {x y : Ref sig .tc} (he hn hx hy) : Plain (reshape x y he hn hx hy) := ⟨reshape_bufs_sub .., rfl⟩

/-- A straight line of plain operations. -/
def IsLine (p : Prog (TpuEff nD τ sig (Elt Ideal) (Pipeline.Sig Λ₀ (Fin 0) fun p => (pcfgs (F := Ideal) p).Adm) .tc) PUnit)
    (ops : List (HloOp τ sig (Elt Ideal))) : Prop := IsSeq p ops ∧ ∀ op ∈ ops, Plain op

theorem IsLine.nil : IsLine (pure ⟨⟩) [] := ⟨IsSeq.nil, List.forall_mem_nil _⟩

theorem IsLine.cons {op : HloOp τ sig (Elt Ideal)} {k : Prog (TpuEff nD τ sig (Elt Ideal) (Pipeline.Sig Λ₀ (Fin 0) fun p => (pcfgs (F := Ideal) p).Adm) .tc) PUnit}
    {ops : List (HloOp τ sig (Elt Ideal))} (h : Plain op) (hk : IsLine k ops) : IsLine ((hlo rfl op fun _ => .ret (⟨⟩ : PUnit)) >>= fun _ => k) (op :: ops) :=
  ⟨IsSeq.cons hk.1, List.forall_mem_cons.mpr ⟨h, hk.2⟩⟩

set_option maxHeartbeats 40000000 in
/-- The operations, read off the program. -/
def line : {ops : List (HloOp τ sig (Elt Ideal)) // ∀ d, IsLine (main (F := Ideal) d) ops} := by
  apply Subtype.mk
  intro d
  simp only [main, fn_uniform.body, fn_threefry2x32.body, fn_threefry2x32.body_part0, fn_threefry2x32.body_part1, fn_threefry2x32.body_part2,
    fn_threefry2x32.body_part3, fn_argsort.body, bind_assoc, pure_bind]
  repeat (first
    | exact IsLine.nil
    | apply IsLine.cons (by with_reducible first | exact plain_nullary .. | exact plain_unary .. | exact plain_binary .. | exact plain_reshape ..))

abbrev ops : List (HloOp τ sig (Elt Ideal)) := line.1

end Cert.Proof.Reference

end
-- ==== Proof.RefRun.lean ====
/-
  The reference's run: @main is a straight line of host operations, so it runs to the fold of their results over the
  launch contents; none of them writes the argument.
-/
module

public import proofs.«01_k».proof.Defs
public import proofs.«01_k».proof.Proof.Gen.ReferenceIdeal
public import Idealize.ShloMosaic.Adequacy
public import proofs.«01_k».proof.Proof.RefLine
public import Idealize.ShloMosaic.Lib.StableHlo.RunHlo
public import Idealize.ShloMosaic.Lib.Quiescent
public import Idealize.ShloMosaic.Lib.StableHlo.RunRead

@[expose] public section

noncomputable section

namespace Cert.Proof.Reference

open Cert.ReferenceIdeal Cert.ReferenceIdeal.Gen
open Idealize.ShloMosaic Idealize.ShloMosaic.StableHlo
open Idealize.SL.Sem

/-- The argument is read by no operation and written by none. -/
theorem arg0_eq (V : Valuation τ sig (Elt Ideal)) : after ops V (Proc.devRef .tc main_arg0) = V (Proc.devRef .tc main_arg0) := by
  after_reads_simp

theorem run_main (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r =>
      ∀ (d : Dev nD) (b : Ref sig .tc), r.2.mem ((d.tc : Thread nD τ).loc b) = after ops (launchContents m d) (Proc.devRef .tc b) :=
  run_hlo _ _ (fun d => (line.2 d).1) (by decide) (by decide) (List.forall_iff_forall_mem.mpr fun op h => ((line.2 0).2 op h).1) (fun op h => ((line.2 0).2 op h).2) m ρ

/-- `Cert.quiescent_ReferenceIdeal`. -/
theorem frame : Cert.quiescent_ReferenceIdeal := fun m ρ _ =>
  (θ_run Cert.ReferenceIdeal.defs _ _).mono (fun r h => ⟨fun c => (h c main_arg0).trans (arg0_eq _), sem_eq_zero_of_no_sems (by decide) r.2⟩) (run_main m ρ)

end Cert.Proof.Reference

end
-- ==== Proof.RefWords.lean ====
/-
  The words the reference draws: its straight line of threefry rounds leaves, at every place, the two halves whose
  exclusive or is that place's random word.
-/
module

public import proofs.«01_k».proof.Defs
public import proofs.«01_k».proof.Proof.Gen.ReferenceIdeal
public import proofs.«01_k».proof.Proof.RefLine
public import proofs.«01_k».proof.Proof.Spec
public import Idealize.ShloMosaic.Lib.StableHlo.RunRead
public import Idealize.ShloMosaic.Lib.IdealHost

@[expose] public section

noncomputable section

namespace Cert.Proof.Reference

open Cert.ReferenceIdeal Cert.ReferenceIdeal.Gen
open Idealize.ShloMosaic Idealize.ShloMosaic.StableHlo
open Cert.Proof.Spec

/-- The contents of the TensorCore's arrays. -/
abbrev Cont : Type := Valuation τ sig (Elt Ideal)

/-- An array of words, and one word held as an array. -/
abbrev Words : Type := S128x1024.Idx → BitVec 32
abbrev Word : Type := S_.Idx → BitVec 32

/-- The one place of a one-word array. -/
abbrev pt : S_.Idx := ValueIdx.ix0

/-- The key injection, as the reference writes it: the round's number is added last. -/
def inject (a b k : BitVec 32) (p : BitVec 32 × BitVec 32) : BitVec 32 × BitVec 32 := (p.1 + a, p.2 + b + k)

theorem inject_eq (a b k : BitVec 32) (p : BitVec 32 × BitVec 32) : inject a b k p = inj a (b + k) p := by
  rw [inject, inj, BitVec.add_assoc]

/-- Broadcast of a one-word array. -/
theorem bcast_pt (x : Word) (y : S128x1024.Idx) : broadcastInDim S128x1024 ![] bcast_S_S128x1024 x y = x pt :=
  ValueIdx.broadcastInDim_scalar_apply _ x y

/-- A shift by a constant below the width. -/
theorem shl_const (x : Words) (n : BitVec 32) (hn : n.toNat < 32) (y : S128x1024.Idx) :
    Host.shli x (broadcastInDim S128x1024 ![] bcast_S_S128x1024 (constantI S_ 32 n)) y = x y <<< n.toNat := by
  show IntOp.shli .host (x y) n = _
  rw [IntOp.shli, if_pos hn]; rfl
theorem shr_const (x : Words) (n : BitVec 32) (hn : n.toNat < 32) (y : S128x1024.Idx) :
    Host.shrui x (broadcastInDim S128x1024 ![] bcast_S_S128x1024 (constantI S_ 32 n)) y = x y >>> n.toNat := by
  show IntOp.shrui .host (x y) n = _
  rw [IntOp.shrui, if_pos hn]; rfl

/-- One round, as the reference writes it. -/
def round (l r : BitVec 32) (p : Words × Words) : Words × Words :=
  (addi p.1 p.2, xori (addi p.1 p.2) (ori (Host.shli p.2 (broadcastInDim S128x1024 ![] bcast_S_S128x1024 (constantI S_ 32 l)))
    (Host.shrui p.2 (broadcastInDim S128x1024 ![] bcast_S_S128x1024 (constantI S_ 32 r)))))

theorem round_eq (l r : BitVec 32) (hl : l.toNat < 32) (hr : r.toNat < 32) (hs : r.toNat = 32 - l.toNat) (p : Words × Words) (y : S128x1024.Idx) :
    ((round l r p).1 y, (round l r p).2 y) = step l.toNat (p.1 y, p.2 y) := by
  refine Prod.ext rfl ?_
  show (p.1 y + p.2 y) ^^^ (Host.shli p.2 _ y ||| Host.shrui p.2 _ y) = _
  rw [shl_const _ _ hl, shr_const _ _ hr, hs, BitVec.xor_comm]
  rfl

/-- Four rounds of the first kind, and of the second. -/
def evens (p : Words × Words) : Words × Words := round 6#32 26#32 (round 26#32 6#32 (round 15#32 17#32 (round 13#32 19#32 p)))
def odds (p : Words × Words) : Words × Words := round 24#32 8#32 (round 16#32 16#32 (round 29#32 3#32 (round 17#32 15#32 p)))

theorem evens_eq (p : Words × Words) (y : S128x1024.Idx) : ((evens p).1 y, (evens p).2 y) = even4 (p.1 y, p.2 y) := by
  rw [evens, round_eq _ _ (by decide) (by decide) (by decide), round_eq _ _ (by decide) (by decide) (by decide),
    round_eq _ _ (by decide) (by decide) (by decide), round_eq _ _ (by decide) (by decide) (by decide)]
  rfl
theorem odds_eq (p : Words × Words) (y : S128x1024.Idx) : ((odds p).1 y, (odds p).2 y) = odd4 (p.1 y, p.2 y) := by
  rw [odds, round_eq _ _ (by decide) (by decide) (by decide), round_eq _ _ (by decide) (by decide) (by decide),
    round_eq _ _ (by decide) (by decide) (by decide), round_eq _ _ (by decide) (by decide) (by decide)]
  rfl

/-- The key injection on whole arrays. -/
def injects (a b : Word) (k : BitVec 32) (p : Words × Words) : Words × Words :=
  (addi p.1 (broadcastInDim S128x1024 ![] bcast_S_S128x1024 a), addi (addi p.2 (broadcastInDim S128x1024 ![] bcast_S_S128x1024 b))
    (broadcastInDim S128x1024 ![] bcast_S_S128x1024 (constantI S_ 32 k)))

theorem injects_eq (a b : Word) (k : BitVec 32) (p : Words × Words) (y : S128x1024.Idx) :
    ((injects a b k p).1 y, (injects a b k p).2 y) = inj (a pt) (b pt + k) (p.1 y, p.2 y) := by
  rw [← inject_eq]
  show (p.1 y + broadcastInDim S128x1024 ![] bcast_S_S128x1024 a y, p.2 y + broadcastInDim S128x1024 ![] bcast_S_S128x1024 b y + k) = _
  rw [bcast_pt, bcast_pt]; rfl

/-! ## The line, in segments -/

theorem after_join (l₁ l₂ : List (HloOp τ sig (Elt Ideal))) (V : Cont) : after (l₁ ++ l₂) V = after l₂ (after l₁ V) := by
  induction l₁ generalizing V with
  | nil => rfl
  | cons op l ih => exact ih _

/-- The contents after `a + n` operations: the next `n` from the contents after `a`. -/
theorem upto_add (V : Cont) (a n : ℕ) : upto ops V (a + n) = after ((ops.drop a).take n) (upto ops V a) := by
  rw [upto, upto, List.take_add, after_join]

theorem after_split (V : Cont) (a : ℕ) : after ops V = after (ops.drop a) (upto ops V a) := by
  rw [upto, ← after_join, List.take_append_drop]

/-- The arrays that hold the two key words and the third word made of them. -/
def Keyed (V : Cont) : Prop :=
  (V (Proc.devRef .tc main_call0_v5) : Word) pt = 0#32 ∧ (V (Proc.devRef .tc main_call0_v7) : Word) pt = 1#32
    ∧ (V (Proc.devRef .tc main_call0_call0_v1) : Word) pt = 466688987#32

set_option maxHeartbeats 4000000 in
theorem group1 (V : Cont) (hV : Keyed V) : Keyed (after ((ops.drop 41).take 43) V) ∧
    ((after ((ops.drop 41).take 43) V (Proc.devRef .tc main_call0_call0_v35) : Words), (after ((ops.drop 41).take 43) V (Proc.devRef .tc main_call0_call0_v39) : Words))
      = injects (V (Proc.devRef .tc main_call0_v7)) (V (Proc.devRef .tc main_call0_call0_v1)) 1#32
        (evens (V (Proc.devRef .tc main_call0_call0_v3), V (Proc.devRef .tc main_call0_call0_v5))) := by
  refine ⟨?_, ?_⟩
  · unfold Keyed
    after_reads_simp
    exact hV
  · after_reads_simp
    rfl

set_option maxHeartbeats 4000000 in
theorem group2 (V : Cont) (hV : Keyed V) : Keyed (after ((ops.drop 84).take 43) V) ∧
    ((after ((ops.drop 84).take 43) V (Proc.devRef .tc main_call0_call0_v69) : Words), (after ((ops.drop 84).take 43) V (Proc.devRef .tc main_call0_call0_v73) : Words))
      = injects (V (Proc.devRef .tc main_call0_call0_v1)) (V (Proc.devRef .tc main_call0_v5)) 2#32
        (odds (V (Proc.devRef .tc main_call0_call0_v35), V (Proc.devRef .tc main_call0_call0_v39))) := by
  refine ⟨?_, ?_⟩
  · unfold Keyed
    after_reads_simp
    exact hV
  · after_reads_simp
    rfl

set_option maxHeartbeats 4000000 in
theorem group3 (V : Cont) (hV : Keyed V) : Keyed (after ((ops.drop 127).take 43) V) ∧
    ((after ((ops.drop 127).take 43) V (Proc.devRef .tc main_call0_call0_v103) : Words), (after ((ops.drop 127).take 43) V (Proc.devRef .tc main_call0_call0_v107) : Words))
      = injects (V (Proc.devRef .tc main_call0_v5)) (V (Proc.devRef .tc main_call0_v7)) 3#32
        (evens (V (Proc.devRef .tc main_call0_call0_v69), V (Proc.devRef .tc main_call0_call0_v73))) := by
  refine ⟨?_, ?_⟩
  · unfold Keyed
    after_reads_simp
    exact hV
  · after_reads_simp
    rfl

set_option maxHeartbeats 4000000 in
theorem group4 (V : Cont) (hV : Keyed V) : Keyed (after ((ops.drop 170).take 43) V) ∧
    ((after ((ops.drop 170).take 43) V (Proc.devRef .tc main_call0_call0_v137) : Words), (after ((ops.drop 170).take 43) V (Proc.devRef .tc main_call0_call0_v141) : Words))
      = injects (V (Proc.devRef .tc main_call0_v7)) (V (Proc.devRef .tc main_call0_call0_v1)) 4#32
        (odds (V (Proc.devRef .tc main_call0_call0_v103), V (Proc.devRef .tc main_call0_call0_v107))) := by
  refine ⟨?_, ?_⟩
  · unfold Keyed
    after_reads_simp
    exact hV
  · after_reads_simp
    rfl

set_option maxHeartbeats 4000000 in
theorem group5 (V : Cont) (hV : Keyed V) : Keyed (after ((ops.drop 213).take 43) V) ∧
    ((after ((ops.drop 213).take 43) V (Proc.devRef .tc main_call0_v19_0) : Words), (after ((ops.drop 213).take 43) V (Proc.devRef .tc main_call0_v19_1) : Words))
      = injects (V (Proc.devRef .tc main_call0_call0_v1)) (V (Proc.devRef .tc main_call0_v5)) 5#32
        (evens (V (Proc.devRef .tc main_call0_call0_v137), V (Proc.devRef .tc main_call0_call0_v141))) := by
  refine ⟨?_, ?_⟩
  · unfold Keyed
    after_reads_simp
    exact hV
  · after_reads_simp
    rfl

/-- The words the seed is made of. -/
theorem seed_hi (V : Cont) : (upto ops V 9 (Proc.devRef .tc main_v2) : S1.Idx → BitVec 32) = fun _ => 0#32 := by
  after_reads_simp
  rfl
theorem seed_lo (V : Cont) : (upto ops V 9 (Proc.devRef .tc main_v5) : S1.Idx → BitVec 32) = fun _ => 1#32 := by
  after_reads_simp
  funext i
  show (1#32 &&& 4294967295#32) = 1#32
  decide

/-- The counters, as the reference computes them on 64 bits. -/
theorem wide_toNat (b j : ℕ) (hb : b < 128) (hj : j < 1024) :
    (1024#64 * BitVec.ofNat 64 b + 1#64 * BitVec.ofNat 64 j).toNat = 1024 * b + j := by
  simp only [BitVec.toNat_add, BitVec.toNat_mul, BitVec.toNat_ofNat]
  omega

theorem wide_lo (b j : ℕ) (hb : b < 128) (hj : j < 1024) :
    BitVec.setWidth 32 (1024#64 * BitVec.ofNat 64 b + 1#64 * BitVec.ofNat 64 j) = cnt b j := by
  apply BitVec.eq_of_toNat_eq
  rw [BitVec.toNat_setWidth, wide_toNat b j hb hj, cnt, BitVec.toNat_ofNat]

theorem wide_hi (b j : ℕ) (hb : b < 128) (hj : j < 1024) :
    BitVec.setWidth 32 (IntOp.shrui .host (1024#64 * BitVec.ofNat 64 b + 1#64 * BitVec.ofNat 64 j) 32#64) = 0#32 := by
  rw [IntOp.shrui, if_pos (by decide)]
  apply BitVec.eq_of_toNat_eq
  rw [BitVec.toNat_setWidth, BitVec.ushiftRight_eq', BitVec.toNat_ushiftRight, wide_toNat b j hb hj, Nat.shiftRight_eq_div_pow]
  show (1024 * b + j) / 2 ^ 32 % 2 ^ 32 = 0
  omega

/-- The counters as 64-bit words. -/
def wide : S128x1024.Idx → BitVec 64 :=
  addi (muli (broadcastInDim S128x1024 ![] bcast_S_S128x1024 (constantI S_ 64 1024#64)) (iotaInDim S128x1024 64 0))
    (muli (broadcastInDim S128x1024 ![] bcast_S_S128x1024 (constantI S_ 64 1#64)) (iotaInDim S128x1024 64 1))

/-- A counter's lower and upper halves, each with a key word added. -/
theorem counters (W : Cont) :
    (after ((ops.drop 20).take 21) W (Proc.devRef .tc main_call0_call0_v3) : Words)
      = addi (trunci 32 (Host.shrui wide (broadcastInDim S128x1024 ![] bcast_S_S128x1024 (constantI S_ 64 32#64))) natLt_32_64)
          (broadcastInDim S128x1024 ![] bcast_S_S128x1024 (W (Proc.devRef .tc main_call0_v5) : Word)) ∧
    (after ((ops.drop 20).take 21) W (Proc.devRef .tc main_call0_call0_v5) : Words)
      = addi (trunci 32 wide natLt_32_64) (broadcastInDim S128x1024 ![] bcast_S_S128x1024 (W (Proc.devRef .tc main_call0_v7) : Word)) := by
  refine ⟨?_, ?_⟩
  · after_reads_simp
    rfl
  · after_reads_simp
    rfl

theorem counter_hi (w : Word) (y : S128x1024.Idx) :
    addi (trunci 32 (Host.shrui wide (broadcastInDim S128x1024 ![] bcast_S_S128x1024 (constantI S_ 64 32#64))) natLt_32_64)
      (broadcastInDim S128x1024 ![] bcast_S_S128x1024 w) y = w pt := by
  show BitVec.setWidth 32 (IntOp.shrui .host (1024#64 * BitVec.ofNat 64 (y 0).val + 1#64 * BitVec.ofNat 64 (y 1).val) 32#64)
    + broadcastInDim S128x1024 ![] bcast_S_S128x1024 w y = w pt
  rw [wide_hi _ _ (y 0).isLt (y 1).isLt, bcast_pt, BitVec.zero_add]

theorem counter_lo (w : Word) (y : S128x1024.Idx) :
    addi (trunci 32 wide natLt_32_64) (broadcastInDim S128x1024 ![] bcast_S_S128x1024 w) y = cnt (y 0).val (y 1).val + w pt := by
  show BitVec.setWidth 32 (1024#64 * BitVec.ofNat 64 (y 0).val + 1#64 * BitVec.ofNat 64 (y 1).val)
    + broadcastInDim S128x1024 ![] bcast_S_S128x1024 w y = _
  rw [wide_lo _ _ (y 0).isLt (y 1).isLt, bcast_pt]

/-- The key's two words. -/
theorem key_words (V : Cont) : (upto ops V 20 (Proc.devRef .tc main_call0_v5) : Word) pt = 0#32 ∧
    (upto ops V 20 (Proc.devRef .tc main_call0_v7) : Word) pt = 1#32 := by
  have h0 := seed_hi V
  have h1 := seed_lo V
  after_reads_simp
  generalize upto ops V 9 (Proc.devRef .tc main_v2) = a at *
  generalize upto ops V 9 (Proc.devRef .tc main_v5) = b at *
  subst h0 h1
  exact ⟨rfl, rfl⟩

/-- The key words and the counters, before the rounds. -/
theorem head (V : Cont) : Keyed (upto ops V 41) ∧ ∀ y : S128x1024.Idx,
    (upto ops V 41 (Proc.devRef .tc main_call0_call0_v3) : Words) y = 0#32 ∧
    (upto ops V 41 (Proc.devRef .tc main_call0_call0_v5) : Words) y = cnt (y 0).val (y 1).val + 1#32 := by
  have h0 := seed_hi V
  have h1 := seed_lo V
  refine ⟨?_, fun y => ?_⟩
  · unfold Keyed
    after_reads_simp
    generalize upto ops V 9 (Proc.devRef .tc main_v2) = a at *
    generalize upto ops V 9 (Proc.devRef .tc main_v5) = b at *
    subst h0 h1
    exact ⟨rfl, rfl, rfl⟩
  · obtain ⟨k0, k1⟩ := key_words V
    rw [show (41 : ℕ) = 20 + 21 from rfl, upto_add]
    obtain ⟨c0, c1⟩ := counters (upto ops V 20)
    exact ⟨(congrFun c0 y).trans ((counter_hi _ y).trans k0), (congrFun c1 y).trans ((counter_lo _ y).trans (congrArg (_ + ·) k1))⟩

/-- Four rounds and an injection, at one place. -/
theorem inject_at {F : Words × Words → Words × Words} {f : BitVec 32 × BitVec 32 → BitVec 32 × BitVec 32}
    (hF : ∀ (p : Words × Words) (y : S128x1024.Idx), ((F p).1 y, (F p).2 y) = f (p.1 y, p.2 y)) {A B C D : Words} {a b : Word} {k x w s : BitVec 32}
    (e : (A, B) = injects a b k (F (C, D))) (ha : a pt = x) (hb : b pt = w) (hs : w + k = s) {y : S128x1024.Idx} {z : BitVec 32 × BitVec 32}
    (hz : (C y, D y) = z) : (A y, B y) = inj x s (f z) := by
  have h := injects_eq a b k (F (C, D)) y
  rw [← e, hF, ha, hb, hs] at h
  exact h.trans (congrArg (fun z => inj x s (f z)) hz)

/-- After the rounds: the two halves of every place's word. -/
theorem halves (V : Cont) (y : S128x1024.Idx) :
    ((upto ops V 256 (Proc.devRef .tc main_call0_v19_0) : Words) y, (upto ops V 256 (Proc.devRef .tc main_call0_v19_1) : Words) y)
      = g5 (cnt (y 0).val (y 1).val) := by
  obtain ⟨K0, h0⟩ := head V
  obtain ⟨K1, e1⟩ := group1 _ K0
  obtain ⟨K2, e2⟩ := group2 _ K1
  obtain ⟨K3, e3⟩ := group3 _ K2
  obtain ⟨K4, e4⟩ := group4 _ K3
  obtain ⟨K5, e5⟩ := group5 _ K4
  rw [show (256 : ℕ) = 41 + 43 + 43 + 43 + 43 + 43 from rfl, upto_add, upto_add, upto_add, upto_add, upto_add]
  have a1 := inject_at evens_eq e1 K0.2.1 K0.2.2 (rfl : _ = 466688988#32) (congrArg₂ Prod.mk (h0 y).1 (h0 y).2)
  have a2 := inject_at odds_eq e2 K1.2.2 K1.1 (rfl : _ = 2#32) a1
  have a3 := inject_at evens_eq e3 K2.1 K2.2.1 (rfl : _ = 4#32) a2
  have a4 := inject_at odds_eq e4 K3.2.1 K3.2.2 (rfl : _ = 466688991#32) a3
  exact inject_at evens_eq e5 K4.2.2 K4.1 (rfl : _ = 5#32) a4

end Cert.Proof.Reference

end
-- ==== Proof.SortRank.lean ====
/-
  Where a stable sort puts a position: as many places along as there are positions before it, a position being before
  another when its key is less, or the keys are equal and it comes first.
-/
module

public import proofs.«01_k».proof.Defs
public import proofs.«01_k».proof.Proof.RankVal
public import proofs.«01_k».proof.Proof.KeyVal
public import Idealize.ShloMosaic.Lib.SortPrefix

@[expose] public section

noncomputable section

namespace Cert.Proof.SortRank

open Idealize.ShloMosaic

section Stable

variable {n : ℕ} (key : Fin n → ℕ)

/-- Before, by the key alone. -/
def less (a b : Fin n) : Bool := decide (key a < key b)

/-- Before, by the key and then the position. -/
def before (a b : Fin n) : Bool := decide (key a < key b) || (decide (key a = key b) && decide (a < b))

theorem before_strict : StrictTotalBefore (before key) :=
  StrictTotalBefore.of_key_then_position (fun a b => decide (a < b)) key (fun a => by simp)
    (fun a b c => by simp only [decide_eq_true_eq]; omega) (fun a b => by simp only [decide_eq_true_eq]; omega)

/-- A stable sort of positions in order by the key is the sort by the key and then the position. -/
theorem stableSort_less (l : List (Fin n)) (hl : l.Pairwise (· < ·)) : stableSort (less key) l = stableSort (before key) l := by
  induction l with
  | nil => rfl
  | cons a l ih =>
    rw [List.pairwise_cons] at hl
    unfold stableSort
    rw [ih hl.2]
    refine insertBefore_congr _ _ a _ fun b hb => ?_
    have hab : a < b := hl.1 b ((perm_stableSort (before key) l).mem_iff.mp hb)
    have : ¬ b < a := not_lt.mpr hab.le
    simp [less, before, this]

theorem sortedFrom_less : sortedFrom (less key) = sortedFrom (before key) := by
  funext k
  have h : sortPositions n (less key) = sortPositions n (before key) :=
    stableSort_less key _ (List.pairwise_lt_finRange n)
  unfold sortedFrom
  rw [List.get_of_eq h]
  rfl

/-- Of two places of the sort, the first holds the position that is before. -/
theorem before_sorted_iff (i k : Fin n) : before key (sortedFrom (before key) i) (sortedFrom (before key) k) = true ↔ i < k := by
  have hB := before_strict key
  have hn : ∀ i j : Fin n, i < j → before key (sortedFrom (before key) j) (sortedFrom (before key) i) = false := fun i j h =>
    sortedFrom_noInversion _ _ (fun a b h => hB.asymm a b h) (fun _ _ h => h) hB.negTrans i j h
  constructor
  · intro h
    rcases lt_trichotomy i k with hik | rfl | hki
    · exact hik
    · rw [hB.irrefl] at h; exact absurd h (by decide)
    · rw [hn k i hki] at h; exact absurd h (by decide)
  · intro h
    rcases hB.total (sortedFrom (before key) i) (sortedFrom (before key) k) (fun e => h.ne (sortedFrom_injective _ e)) with h' | h'
    · exact h'
    · rw [hn i k h] at h'; exact absurd h' (by decide)

/-- How many positions are before `j`. -/
def place (j : Fin n) : ℕ := ((Finset.univ : Finset (Fin n)).filter fun i => before key i j = true).card

/-- The position at place `k` has `k` positions before it. -/
theorem place_sortedFrom (k : Fin n) : place key (sortedFrom (less key) k) = k.val := by
  rw [sortedFrom_less, place]
  have e : (Finset.univ : Finset (Fin n)).filter (fun i => before key i (sortedFrom (before key) k) = true)
      = (Finset.Iio k).image (sortedFrom (before key)) := by
    ext i
    simp only [Finset.mem_filter, Finset.mem_univ, true_and, Finset.mem_image, Finset.mem_Iio]
    obtain ⟨i', rfl⟩ := sortedFrom_surjective (before key) i
    rw [before_sorted_iff]
    exact ⟨fun h => ⟨i', h, rfl⟩, fun ⟨a, ha, e⟩ => (sortedFrom_injective _ e) ▸ ha⟩
  rw [e, Finset.card_image_of_injective _ (sortedFrom_injective _), Fin.card_Iio]

/-- The sort puts `j` at place `k` exactly when `k` positions are before `j`. -/
theorem sortedFrom_eq_iff (k j : Fin n) : sortedFrom (less key) k = j ↔ place key j = k.val := by
  constructor
  · rintro rfl; exact place_sortedFrom key k
  · intro h
    obtain ⟨k', rfl⟩ := sortedFrom_surjective (less key) j
    rw [place_sortedFrom] at h
    rw [Fin.ext h]

end Stable

/-! ## The keys of a row -/

section Keys

open Cert.Proof.Spec Cert.Proof.Ranks

/-- The word the reference sorts row `b`'s column `j` by. -/
def top (b j : ℕ) : ℕ := (bits (cnt b j) >>> 9).toNat

theorem top_lt (b j : ℕ) : top b j < 2 ^ 23 := by
  have := (bits (cnt b j)).isLt
  rw [top, BitVec.toNat_ushiftRight, Nat.shiftRight_eq_div_pow]
  omega

/-- With its sign bit turned, a word below `2 ^ 31` grows by `2 ^ 31`. -/
theorem flip_low (x : BitVec 32) (h : x.msb = false) : (x ^^^ 2147483648#32).toNat = x.toNat + 2 ^ 31 := by
  have hx : x.toNat < 2 ^ 31 := by have := BitVec.msb_eq_false_iff_two_mul_lt.mp h; omega
  have hc : (2147483648#32).toNat = 2 ^ 31 * 1 := rfl
  have e : x ^^^ 2147483648#32 = x ||| 2147483648#32 := by
    apply BitVec.eq_of_getLsbD_eq
    intro i hi
    rw [BitVec.getLsbD_xor, BitVec.getLsbD_or, show (2147483648#32) = BitVec.intMin 32 from rfl, BitVec.getLsbD_intMin]
    by_cases h31 : i + 1 = 32
    · have : x.getLsbD i = false := by
        have e31 : i = 31 := by omega
        subst e31
        rw [← h, BitVec.msb_eq_getLsbD_last]
      simp [this]
    · simp [h31]
  rw [e, BitVec.toNat_or, hc, Nat.or_comm, ← Nat.two_pow_add_eq_or_of_lt hx]
  omega

/-- The signed order of words with their sign bits turned is the unsigned order of the words. -/
theorem flip_toInt (x : BitVec 32) : (x ^^^ 2147483648#32).toInt = (x.toNat : ℤ) - 2 ^ 31 := by
  cases h : x.msb
  · have hx : x.toNat < 2 ^ 31 := by have := BitVec.msb_eq_false_iff_two_mul_lt.mp h; omega
    rw [BitVec.toInt_eq_toNat_cond, flip_low x h, if_neg (by omega)]
    omega
  · have hm : (x ^^^ 2147483648#32).msb = false := by
      rw [BitVec.msb_xor, h]; rfl
    have e := flip_low _ hm
    rw [BitVec.xor_assoc, BitVec.xor_self, BitVec.xor_zero] at e
    have hl : (x ^^^ 2147483648#32).toNat < 2 ^ 31 := by have := BitVec.msb_eq_false_iff_two_mul_lt.mp hm; omega
    rw [BitVec.toInt_eq_toNat_cond, if_pos (by omega)]
    omega

/-- A word with its low nine bits replaced. -/
theorem replaced (w : BitVec 32) (j : ℕ) (hj : j < 1024) :
    ((w &&& 4294966784#32) ||| (BitVec.ofNat 32 j >>> 1)).toNat = 512 * (w >>> 9).toNat + j / 2 := by
  have e : w &&& 4294966784#32 = (w >>> 9) <<< 9 := by
    apply BitVec.eq_of_getLsbD_eq
    intro i hi
    have hc : ∀ i < 32, (4294966784#32).getLsbD i = decide (9 ≤ i) := by decide
    rw [BitVec.getLsbD_and, hc i hi, BitVec.getLsbD_shiftLeft, BitVec.getLsbD_ushiftRight]
    by_cases h9 : i < 9
    · simp [h9, not_le.mpr h9]
    · have : 9 + (i - 9) = i := by omega
      simp [h9, not_lt.mp h9, this, hi]
  have hw := w.isLt
  have hq : (w >>> 9).toNat < 2 ^ 23 := by rw [BitVec.toNat_ushiftRight, Nat.shiftRight_eq_div_pow]; omega
  have hj2 : (BitVec.ofNat 32 j >>> 1).toNat = j / 2 := by
    rw [BitVec.toNat_ushiftRight, BitVec.toNat_ofNat, Nat.mod_eq_of_lt (by omega), Nat.shiftRight_eq_div_pow]
  have hs : ((w >>> 9) <<< 9).toNat = 2 ^ 9 * (w >>> 9).toNat := by
    rw [BitVec.toNat_shiftLeft, Nat.shiftLeft_eq, Nat.mod_eq_of_lt (by omega)]; omega
  rw [e, BitVec.toNat_or, hs, hj2, ← Nat.two_pow_add_eq_or_of_lt (by omega)]

/-- The kernel's order of keys: the words, then half the columns. -/
theorem key_slt_iff (b i j : ℕ) (hi : i < 1024) (hj : j < 1024) :
    (key b i).slt (key b j) = true ↔ 512 * top b i + i / 2 < 512 * top b j + j / 2 := by
  rw [BitVec.slt_iff_toInt_lt, key, key, flip_toInt, flip_toInt, replaced _ _ hi, replaced _ _ hj, top, top]
  omega

/-- Against a tail it is the reference's order: a tail's neighbour in its pair has another word. -/
theorem key_slt_before {b : ℕ} (hb : b < 128) (i : Fin 1024) {t : ℕ} (ht : t < 256) :
    (key b i.val).slt (key b (768 + t)) = true ↔ before (fun j : Fin 1024 => top b j.val) i ⟨768 + t, by omega⟩ = true := by
  have hi := i.isLt
  rw [key_slt_iff b i.val (768 + t) hi (by omega)]
  simp only [before, Bool.or_eq_true, Bool.and_eq_true, decide_eq_true_eq, Fin.lt_def]
  have h1 : i.val / 2 < 512 := by omega
  have h2 : (768 + t) / 2 < 512 := by omega
  have hne : i.val + 1 = 768 + t → t % 2 = 1 → top b i.val ≠ top b (768 + t) := by
    intro e ho h
    have hk := top_ne hb (k := t / 2) (by omega)
    rw [show 768 + 2 * (t / 2) = i.val by omega, show i.val + 1 = 768 + t by omega] at hk
    exact hk (BitVec.eq_of_toNat_eq h)
  constructor
  · intro h
    by_cases e : top b i.val = top b (768 + t)
    · right; refine ⟨e, ?_⟩; omega
    · left; omega
  · rintro (h | ⟨e, h⟩)
    · omega
    · by_cases h' : i.val / 2 < (768 + t) / 2
      · omega
      · exact absurd e (hne (by omega) (by omega))

/-- So a tail's rank is its place in the reference's sort. -/
theorem count_eq_place {b : ℕ} (hb : b < 128) {t : ℕ} (ht : t < 256) :
    Ranks.count key b t = place (fun j : Fin 1024 => top b j.val) ⟨768 + t, by omega⟩ := by
  unfold Ranks.count place
  exact congrArg Finset.card (Finset.filter_congr fun i _ => key_slt_before hb i ht)

end Keys

end Cert.Proof.SortRank

end
-- ==== Proof.RefNoise.lean ====
/-
  The reference's noise over exact arithmetic: a word's upper 23 bits as a fraction of 2 ^ 23, so that sorting by the
  noise is sorting by those bits; and what the reference's argsort and comparison make of it.
-/
module

public import proofs.«01_k».proof.Defs
public import proofs.«01_k».proof.Proof.Gen.ReferenceIdeal
public import proofs.«01_k».proof.Proof.SortRank
public import Idealize.ShloMosaic.Lib.IdealHost
public import Idealize.ShloMosaic.Lib.TotalOrder
public import Idealize.ShloMosaic.Lib.ValueIdx

@[expose] public section

noncomputable section

namespace Cert.Proof.Reference

open Cert.ReferenceIdeal Cert.ReferenceIdeal.Gen
open Idealize.ShloMosaic
open Cert.Proof.SortRank

/-- The noise a 23-bit number makes. -/
def noise (t : ℕ) : EReal := ((t : ℝ) * (2 : ℝ) ^ (-23 : ℤ) : ℝ)

theorem noise_lt_iff (s t : ℕ) : noise s < noise t ↔ s < t := by
  have hp : (0 : ℝ) < (2 : ℝ) ^ (-23 : ℤ) := by positivity
  rw [noise, noise, EReal.coe_lt_coe_iff, mul_lt_mul_iff_left₀ hp, Nat.cast_lt]

theorem noise_nonneg (t : ℕ) : 0 ≤ noise t := by
  rw [noise, EReal.coe_nonneg]; positivity

/-- The word `t` under the exponent of one is the number `1 + t / 2 ^ 23`. -/
theorem ofBits_unit (t : BitVec 32) (ht : t.toNat < 2 ^ 23) :
    Ideal.ofBits .f32 (t ||| 1065353216#32) = (((2 ^ 23 + t.toNat : ℕ) * (2 : ℝ) ^ (-23 : ℤ) : ℝ) : EReal) := by
  have hn : (t ||| 1065353216#32).toNat = 2 ^ 23 * 127 + t.toNat := by
    rw [BitVec.toNat_or, show (1065353216#32).toNat = 2 ^ 23 * 127 from rfl, Nat.or_comm, ← Nat.two_pow_add_eq_or_of_lt ht]
  have hs : ((t ||| 1065353216#32).extractLsb' 31 1 == 1#1) = false := by
    rw [beq_eq_false_iff_ne, Ne, BitVec.toNat_eq, BitVec.extractLsb'_toNat, hn, Nat.shiftRight_eq_div_pow]
    show ¬ (_ % 2 ^ 1 = 1)
    omega
  have he : ((t ||| 1065353216#32).extractLsb' 23 8).toNat = 127 := by
    rw [BitVec.extractLsb'_toNat, hn, Nat.shiftRight_eq_div_pow]; omega
  have hf : ((t ||| 1065353216#32).extractLsb' 0 23).toNat = t.toNat := by
    rw [BitVec.extractLsb'_toNat, hn, Nat.shiftRight_eq_div_pow]; omega
  show Ideal.ieee 8 23 (t ||| 1065353216#32) = _
  simp only [Ideal.ieee, Nat.reduceAdd, hs, he, hf]
  norm_num

/-- Minus one, times the width of the interval, plus its lower end, and not below it. -/
theorem uniform_val (t : BitVec 32) (ht : t.toNat < 2 ^ 23) :
    max (Ideal.ofBits .f32 0x00000000#32)
      ((Ideal.ofBits .f32 (t ||| 1065353216#32) - Ideal.ofBits .f32 0x3F800000#32)
          * (Ideal.ofBits .f32 0x3F800000#32 - Ideal.ofBits .f32 0x00000000#32) + Ideal.ofBits .f32 0x00000000#32)
      = noise t.toNat := by
  have h1 : (((2 ^ 23 + t.toNat : ℕ) * (2 : ℝ) ^ (-23 : ℤ) : ℝ) : EReal) - 1 = noise t.toNat := by
    rw [noise, show (1 : EReal) = ((1 : ℝ) : EReal) from rfl, ← EReal.coe_sub]
    refine congrArg _ ?_
    rw [Nat.cast_add, add_mul, show (((2 ^ 23 : ℕ) : ℝ) * (2 : ℝ) ^ (-23 : ℤ)) = 1 by norm_num]
    ring
  rw [ofBits_unit t ht, Ideal.ofBits_zero_f32, Ideal.ofBits_one_f32, h1, sub_zero, mul_one, add_zero]
  exact max_eq_right (noise_nonneg _)

/-- The comparator at two pairs compares their first components. -/
theorem comparator_eq (l r : EReal × BitVec 32) :
    comparator_f32_i32_d1 (F := Ideal) l r = BitVec.ofBool (decide (l.1 < r.1)) := by
  have hc : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32)) (FloatOps.ofBits (F := Ideal) .f32 0x00000000#32) x) = x := by
    intro x
    have hu : FloatOps.cmpf (F := Ideal) (φ := .f32) .une x x = 0#1 := by
      show BitVec.ofBool (decide (x ≠ x)) = 0#1
      simp
    have ho : FloatOps.cmpf (F := Ideal) (φ := .f32) .oeq x (FloatOps.ofBits (F := Ideal) .f32 0x00000000#32) = BitVec.ofBool (decide (x = 0)) := by
      show BitVec.ofBool (decide (x = Ideal.ofBits .f32 0x00000000#32)) = _
      rw [Ideal.ofBits_zero_f32]
    rw [hu, ho]
    by_cases h : x = 0
    · subst h
      simp [Scalar.select, Ideal.ofBits_zero_f32]
    · simp [Scalar.select, h]
  show FloatOps.cmpfTotal (F := Ideal) (φ := .f32) .lt _ _ = _
  rw [hc, hc]
  rfl

/-- The reference's argsort, where the noise is that of the words: place `k` of row `b` holds the position the sort by
    the words puts there. -/
theorem argsort_val (x : S128x1024.Idx → EReal) (hx : ∀ y : S128x1024.Idx, x y = noise (top (y 0).val (y 1).val)) (y : S128x1024.Idx) :
    (Host.sort2 S128x1024 1 (comparator_f32_i32_d1 (F := Ideal)) x (iotaInDim S128x1024 32 1)).2 y
      = BitVec.ofNat 32 (sortedFrom (less fun j : Fin 1024 => top (y 0).val j.val) (y 1)).val := by
  unfold Host.sort2
  rw [dif_pos (by decide)]
  have hB : (fun k k' : Fin 1024 => comparator_f32_i32_d1 (F := Ideal) (x (y.along (1 : Fin 2) k), iotaInDim S128x1024 32 1 (y.along (1 : Fin 2) k))
        (x (y.along (1 : Fin 2) k'), iotaInDim S128x1024 32 1 (y.along (1 : Fin 2) k')) == 1#1)
      = less fun j : Fin 1024 => top (y 0).val j.val := by
    funext k k'
    have hk : ∀ k : Fin 1024, x (y.along (1 : Fin 2) k) = noise (top (y 0).val k.val) := fun k => hx _
    rw [comparator_eq, hk, hk, less]
    simp only [noise_lt_iff]
    by_cases h : top (y 0).val k.val < top (y 0).val k'.val <;> simp [h]
  have hi : ∀ p : Fin 1024, iotaInDim S128x1024 32 1 (y.along (1 : Fin 2) p) = BitVec.ofNat 32 p.val := fun p => rfl
  refine (hi _).trans ?_
  refine congrArg (fun q : Fin 1024 => BitVec.ofNat 32 q.val) ?_
  rw [← hB]
  rfl

/-- The positions below 768, as the reference compares them. -/
theorem below (p : ℕ) (hp : p < 1024) : IntOp.cmpi .slt (BitVec.ofNat 32 p) 768#32 = BitVec.ofBool (decide (p < 768)) := by
  show BitVec.ofBool ((BitVec.ofNat 32 p).slt 768#32) = _
  refine congrArg _ ?_
  rw [BitVec.slt_eq_decide, BitVec.toInt_eq_toNat_cond, BitVec.toNat_ofNat, Nat.mod_eq_of_lt (by omega), if_pos (by omega)]
  simp only [decide_eq_decide]
  show ((p : ℤ) < 768) ↔ _
  omega

end Cert.Proof.Reference

end
-- ==== Proof.RefValue.lean ====
/-
  What the reference's run leaves in its result, and that the kernel's run leaves the same.
-/
module

public import proofs.«01_k».proof.Defs
public import proofs.«01_k».proof.Proof.RefWords
public import proofs.«01_k».proof.Proof.RefNoise
public import proofs.«01_k».proof.Proof.RefRun
public import proofs.«01_k».proof.Proof.KernelRun

@[expose] public section

noncomputable section

namespace Cert.Proof.Reference

open Cert.ReferenceIdeal Cert.ReferenceIdeal.Gen
open Idealize.ShloMosaic Idealize.ShloMosaic.StableHlo
open Idealize.SL.Sem
open Cert.Proof.SortRank Cert.Proof.Spec

/-- Arrays of numbers of the noise's shape, and of the shape of the interval's ends. -/
abbrev Nums := S128x1024.Idx → EReal
abbrev End := S1x1.Idx → EReal

/-- The uniform numbers of an interval, from the two halves of the words. -/
def uniform (h0 h1 : Words) (lo hi : End) : Nums :=
  maximumf (F := Ideal) (φ := .f32) (broadcastInDim S128x1024 ![0, 1] bcast_S1x1_S128x1024_0_1 lo)
    (addf (F := Ideal) (φ := .f32)
      (mulf (F := Ideal) (φ := .f32)
        (subf (F := Ideal) (φ := .f32)
          (bitcastToFloat (F := Ideal) .f32
            (ori (Host.shrui (xori h0 h1) (broadcastInDim S128x1024 ![] bcast_S_S128x1024 (constantI S_ 32 9#32)))
              (broadcastInDim S128x1024 ![] bcast_S_S128x1024 (constantI S_ 32 1065353216#32))))
          (broadcastInDim S128x1024 ![] bcast_S_S128x1024 (constant (F := Ideal) S_ .f32 0x3F800000#32)))
        (broadcastInDim S128x1024 ![0, 1] bcast_S1x1_S128x1024_0_1 (subf (F := Ideal) (φ := .f32) hi lo)))
      (broadcastInDim S128x1024 ![0, 1] bcast_S1x1_S128x1024_0_1 lo))

/-- The interval is from zero to one. -/
theorem lower (V : Cont) : (upto ops V 256 (Proc.devRef .tc main_call0_v2) : End) = fun _ => Ideal.ofBits .f32 0x00000000#32 := by
  after_reads_simp
  rfl
theorem upper (V : Cont) : (upto ops V 256 (Proc.devRef .tc main_call0_v3) : End) = fun _ => Ideal.ofBits .f32 0x3F800000#32 := by
  after_reads_simp
  rfl

theorem noise_line (W : Cont) : (after ((ops.drop 256).take 18) W (Proc.devRef .tc main_v7) : Nums)
    = uniform (W (Proc.devRef .tc main_call0_v19_0)) (W (Proc.devRef .tc main_call0_v19_1))
        (W (Proc.devRef .tc main_call0_v2)) (W (Proc.devRef .tc main_call0_v3)) := by
  after_reads_simp
  rfl

theorem uniform_at (h0 h1 : Words) (y : S128x1024.Idx) (c : BitVec 32) (hc : (h0 y, h1 y) = g5 c) :
    uniform h0 h1 (fun _ => Ideal.ofBits .f32 0x00000000#32) (fun _ => Ideal.ofBits .f32 0x3F800000#32) y = noise (bits c >>> 9).toNat := by
  have hs : IntOp.shrui .host (h0 y ^^^ h1 y) 9#32 = bits c >>> 9 := by
    rw [IntOp.shrui, if_pos (by decide), bits, ← hc]; rfl
  have ht : (bits c >>> 9).toNat < 2 ^ 23 := by
    rw [BitVec.toNat_ushiftRight, Nat.shiftRight_eq_div_pow]
    have := (bits c).isLt
    omega
  rw [← uniform_val _ ht, ← hs]
  rfl

/-- The noise. -/
theorem noise_at (V : Cont) (y : S128x1024.Idx) :
    (upto ops V 274 (Proc.devRef .tc main_v7) : Nums) y = noise (top (y 0).val (y 1).val) := by
  have e := congrFun (noise_line (upto ops V 256)) y
  rw [lower, upper] at e
  have h := e.trans (uniform_at _ _ y (cnt (y 0).val (y 1).val) (halves V y))
  rw [← upto_add] at h
  exact h

theorem result_line (W : Cont) : (after (ops.drop 274) W (Proc.devRef .tc main_v10) : S128x1024.Idx → BitVec 1)
    = cmpi .slt (Host.sort2 S128x1024 1 (comparator_f32_i32_d1 (F := Ideal)) (W (Proc.devRef .tc main_v7) : Nums) (iotaInDim S128x1024 32 1)).2
        (broadcastInDim S128x1024 ![] bcast_S_S128x1024 (constantI S_ 32 768#32)) := by
  after_reads_simp
  rfl

/-- The sort by the words puts at place `k` a position below 768 exactly where no tail position has rank `k`. -/
theorem kept_iff {b : ℕ} (hb : b < 128) (k : Fin 1024) :
    (sortedFrom (less fun j : Fin 1024 => top b j.val) k).val < 768 ↔ ¬ ∃ t < 256, Ranks.rank b t = k.val := by
  have hr : ∀ t, (ht : t < 256) → Ranks.rank b t = place (fun j : Fin 1024 => top b j.val) ⟨768 + t, by omega⟩ := by
    intro t ht
    rw [Ranks.rank, if_pos ht]
    exact count_eq_place hb ht
  constructor
  · rintro h ⟨t, ht, he⟩
    rw [hr t ht, ← sortedFrom_eq_iff] at he
    rw [he] at h
    exact absurd h (by simp)
  · intro h
    by_contra hn
    have hl := (sortedFrom (less fun j : Fin 1024 => top b j.val) k).isLt
    have ht : (sortedFrom (less fun j : Fin 1024 => top b j.val) k).val - 768 < 256 := by omega
    refine h ⟨_, ht, ?_⟩
    rw [hr _ ht, ← sortedFrom_eq_iff]
    exact Fin.ext (by simp only; omega)

/-- The mask at a place. -/
theorem mask_at (y : S128x1024.Idx) :
    KernelRun.mask y = BitVec.ofBool (decide ((sortedFrom (less fun j : Fin 1024 => top (y 0).val j.val) (y 1)).val < 768)) := by
  have h := kept_iff (y 0).isLt (y 1)
  unfold KernelRun.mask
  show IntOp.cmpi .ne (Scatter.cutAt (Ranks.rank (y 0).val) 256 (y 1).val) 0#32 = _
  by_cases he : ∃ t < 256, Ranks.rank (y 0).val t = (y 1).val
  · rw [Scatter.cutAt, if_pos he, decide_eq_false (fun hk => h.mp hk he)]; rfl
  · rw [Scatter.cutAt, if_neg he, decide_eq_true (h.mpr he)]; rfl

/-- The reference's result is the kernel's. -/
theorem result_eq (V : Cont) : (after ops V (Proc.devRef .tc main_v10) : S128x1024.Idx → BitVec 1) = KernelRun.mask := by
  rw [after_split V 274, result_line]
  funext y
  exact ((congrArg (IntOp.cmpi .slt · 768#32) (argsort_val _ (noise_at V) y)).trans (below _ (Fin.isLt _))).trans (mask_at y).symm

end Cert.Proof.Reference

namespace Cert.Proof

open Idealize.ShloMosaic Idealize.ShloMosaic.StableHlo Idealize.SL.Sem

/-- `Cert.algebraic_KernelIdeal_ReferenceIdeal`: both runs end with the mask. -/
theorem algebraic : Cert.algebraic_KernelIdeal_ReferenceIdeal := fun m g m' g' _ _ =>
  ⟨fun _ => KernelRun.mask,
    (θ_run _ _ _).mono (fun r h c => ⟨(h.1 c).2, (h.1 c).1⟩) (KernelRun.run_main m g),
    (θ_run _ _ _).mono (fun r h c => ⟨(h c Cert.ReferenceIdeal.main_v10).trans (Reference.result_eq _), (h c Cert.ReferenceIdeal.main_arg0).trans (Reference.arg0_eq _)⟩)
      (Reference.run_main m' g')⟩

end Cert.Proof

end
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.KernelRun
public import proofs.«01_k».proof.Proof.RefRun
public import proofs.«01_k».proof.Proof.RefValue
public import Idealize.ShloMosaic.Adequacy
public import Idealize.ShloMosaic.Init

@[expose] public section

noncomputable section

namespace Cert.Proof

open Idealize.ShloMosaic Idealize.SL.Sem Cert.KernelIdeal

theorem claim : Cert.Claim := ⟨Cert.KernelIdeal.Gen.facts, Cert.ReferenceIdeal.Gen.facts,
  KernelRun.frame, Reference.frame, algebraic⟩

end Cert.Proof

end
